-- ==== Defs.lean ====
def Pre_Kernel [hPre_types_in_range : Cert.Pre_types_in_range.Facts] (m : (ℓ : Loc Cert.Kernel.nD Cert.Kernel.τ Cert.Kernel.sig) → Buf (Elt Bits) ℓ) : Prop :=
  ∀ c : Dev Cert.Kernel.nD,
    (Cert.Pre_types_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_types_in_range : Cert.Pre_types_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_types_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_types_in_range : Cert.Pre_types_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_types_in_range : Cert.Pre_types_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v174) = v0 c
          ∧ r.2.mem ((c.tc : Thread Cert.ReferenceIdeal.nD Cert.ReferenceIdeal.τ).loc Cert.ReferenceIdeal.main_v179) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_types_in_range : Cert.Pre_types_in_range.Facts) (hPre_inputs_ok : Cert.Pre_inputs_ok.Facts),
    quiescent_Kernel (hKernel := hKernel) (hPre_types_in_range := hPre_types_in_range)
    ∧ quiescent_KernelIdeal (hKernelIdeal := hKernelIdeal) (hPre_types_in_range := hPre_types_in_range)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_inputs_ok.lean ====
abbrev S8x512 : Shape := ⟨2, ![8, 512]⟩
abbrev S8x512x7x2 : Shape := ⟨4, ![8, 512, 7, 2]⟩
abbrev S8x512x37x3 : Shape := ⟨4, ![8, 512, 37, 3]⟩
abbrev S8x512x37 : Shape := ⟨3, ![8, 512, 37]⟩
abbrev S_ : Shape := ⟨0, ![]⟩

class Facts : Prop where
  bcast_S_S8x512 : S_.BroadcastsInDim S8x512 (![] : Fin 0 → Fin S8x512.rank)
  reducesTo_S8x512_S_d0_1 : S8x512.ReducesTo [0, 1] S_
  h_S_ : 0 < S_.numel
  bcast_S_S8x512x7x2 : S_.BroadcastsInDim S8x512x7x2 (![] : Fin 0 → Fin S8x512x7x2.rank)
  reducesTo_S8x512x7x2_S_d0_1_2_3 : S8x512x7x2.ReducesTo [0, 1, 2, 3] S_
  reducesTo_S8x512x37_S_d0_1_2 : S8x512x37.ReducesTo [0, 1, 2] S_

variable [Facts]

def fn {F : FTy → Type} [FloatOps F] (main_arg0 : IVec S8x512 32) (main_arg1 : FVec F S8x512x7x2 .f32) (main_arg2 : FVec F S8x512x37x3 .f32) (main_arg3 : IVec S8x512x37 1) : IVec S_ 1 :=
  let main_c : IVec S_ 32 := constantI S_ 32 0#32
  let main_v0 : IVec S8x512 32 := broadcastInDim S8x512 ![] bcast_S_S8x512 main_c
  let main_v1 : IVec S8x512 1 := cmpi .sge main_arg0 main_v0
  let main_c_0 : IVec S_ 32 := constantI S_ 32 20#32
  let main_v2 : IVec S8x512 32 := broadcastInDim S8x512 ![] bcast_S_S8x512 main_c_0
  let main_v3 : IVec S8x512 1 := cmpi .slt main_arg0 main_v2
  let main_v4 : IVec S8x512 1 := andi main_v1 main_v3
  let main_c_1 : IVec S_ 1 := constantI S_ 1 1#1
  let main_v5 : IVec S_ 1 := (fun x v => Host.reduce IntOp.andi x v reducesTo_S8x512_S_d0_1 h_S_) main_v4 main_c_1
  let main_v6 : FVec F S8x512x7x2 .f32 := Host.absf main_arg1
  let main_cst : FVec F S_ .f32 := constant S_ .f32 0x7F800000#32
  let main_v7 : FVec F S8x512x7x2 .f32 := broadcastInDim S8x512x7x2 ![] bcast_S_S8x512x7x2 main_cst
  let main_v8 : IVec S8x512x7x2 1 := cmpf .olt main_v6 main_v7
  let main_c_2 : IVec S_ 1 := constantI S_ 1 1#1
  let main_v9 : IVec S_ 1 := (fun x v => Host.reduce IntOp.andi x v reducesTo_S8x512x7x2_S_d0_1_2_3 h_S_) main_v8 main_c_2
  let main_v10 : IVec S_ 1 := andi main_v5 main_v9
  let main_c_3 : IVec S_ 1 := constantI S_ 1 1#1
  let main_v11 : IVec S_ 1 := (fun x v => Host.reduce IntOp.andi x v reducesTo_S8x512x37_S_d0_1_2 h_S_) main_arg3 main_c_3
  let main_v12 : IVec S_ 1 := andi main_v10 main_v11
  main_v12
-- ==== Pre_types_in_range.lean ====
abbrev S8x512 : Shape := ⟨2, ![8, 512]⟩
abbrev S8x512x7x2 : Shape := ⟨4, ![8, 512, 7, 2]⟩
abbrev S8x512x37x3 : Shape := ⟨4, ![8, 512, 37, 3]⟩
abbrev S8x512x37 : Shape := ⟨3, ![8, 512, 37]⟩
abbrev S_ : Shape := ⟨0, ![]⟩

class Facts : Prop where
  bcast_S_S8x512 : S_.BroadcastsInDim S8x512 (![] : Fin 0 → Fin S8x512.rank)

variable [Facts]

def fn {F : FTy → Type} [FloatOps F] (main_arg0 : IVec S8x512 32) (main_arg1 : FVec F S8x512x7x2 .f32) (main_arg2 : FVec F S8x512x37x3 .f32) (main_arg3 : IVec S8x512x37 1) : IVec S8x512 1 :=
  let main_c : IVec S_ 32 := constantI S_ 32 0#32
  let main_v0 : IVec S8x512 32 := broadcastInDim S8x512 ![] bcast_S_S8x512 main_c
  let main_v1 : IVec S8x512 1 := cmpi .sge main_arg0 main_v0
  let main_c_0 : IVec S_ 32 := constantI S_ 32 20#32
  let main_v2 : IVec S8x512 32 := broadcastInDim S8x512 ![] bcast_S_S8x512 main_c_0
  let main_v3 : IVec S8x512 1 := cmpi .slt main_arg0 main_v2
  let main_v4 : IVec S8x512 1 := andi main_v1 main_v3
  main_v4
-- ==== Kernel.lean ====
abbrev S8x512 : Shape := ⟨2, ![8, 512]⟩
abbrev S8x512x7x2 : Shape := ⟨4, ![8, 512, 7, 2]⟩
abbrev S8x512x37x3 : Shape := ⟨4, ![8, 512, 37, 3]⟩
abbrev S8x512x37 : Shape := ⟨3, ![8, 512, 37]⟩
abbrev S384 : Shape := ⟨1, ![384]⟩
abbrev S8x4x128 : Shape := ⟨3, ![8, 4, 128]⟩
abbrev S4x8x128 : Shape := ⟨3, ![4, 8, 128]⟩
abbrev S8x7x2x512 : Shape := ⟨4, ![8, 7, 2, 512]⟩
abbrev S8x7x2x4x128 : Shape := ⟨5, ![8, 7, 2, 4, 128]⟩
abbrev S8x7x4x2x128 : Shape := ⟨5, ![8, 7, 4, 2, 128]⟩
abbrev S37x3x8x512 : Shape := ⟨4, ![37, 3, 8, 512]⟩
abbrev S37x3x8x4x128 : Shape := ⟨5, ![37, 3, 8, 4, 128]⟩
abbrev S37x3x4x8x128 : Shape := ⟨5, ![37, 3, 4, 8, 128]⟩
abbrev S111x4x8x128 : Shape := ⟨4, ![111, 4, 8, 128]⟩
abbrev S3x512 : Shape := ⟨2, ![3, 512]⟩
abbrev S111x128 : Shape := ⟨2, ![111, 128]⟩
abbrev S4x2x128 : Shape := ⟨3, ![4, 2, 128]⟩
abbrev S128 : Shape := ⟨1, ![128]⟩
abbrev S48 : Shape := ⟨1, ![48]⟩
abbrev S_ : Shape := ⟨0, ![]⟩
abbrev S111x1x1x128 : Shape := ⟨4, ![111, 1, 1, 128]⟩
abbrev S1x4x1x2x128 : Shape := ⟨5, ![1, 4, 1, 2, 128]⟩
abbrev S1x1x128 : Shape := ⟨3, ![1, 1, 128]⟩
abbrev S16 : Shape := ⟨1, ![16]⟩
abbrev S1x1x16 : Shape := ⟨3, ![1, 1, 16]⟩
abbrev S1x16 : Shape := ⟨2, ![1, 16]⟩
abbrev S3 : Shape := ⟨1, ![3]⟩
abbrev S1 : Shape := ⟨1, ![1]⟩

abbrev nBuf : Table → Nat
  | .hbm => 28
  | .local .scVector .vmem => 5
  | _ => 0

abbrev bufTy : (tb : Table) → Fin (nBuf tb) → BufTy
  | .hbm, ⟨0, _⟩ => ⟨S8x512, .i32⟩
  | .hbm, ⟨1, _⟩ => ⟨S8x512x7x2, .f32⟩
  | .hbm, ⟨2, _⟩ => ⟨S8x512x37x3, .f32⟩
  | .hbm, ⟨3, _⟩ => ⟨S8x512x37, .i1⟩
  | .hbm, ⟨4, _⟩ => ⟨S384, .i32⟩
  | .hbm, ⟨5, _⟩ => ⟨S8x4x128, .i32⟩
  | .hbm, ⟨6, _⟩ => ⟨S4x8x128, .i32⟩
  | .hbm, ⟨7, _⟩ => ⟨S8x7x2x512, .f32⟩
  | .hbm, ⟨8, _⟩ => ⟨S8x7x2x4x128, .f32⟩
  | .hbm, ⟨9, _⟩ => ⟨S8x7x4x2x128, .f32⟩
  | .hbm, ⟨10, _⟩ => ⟨S37x3x8x512, .f32⟩
  | .hbm, ⟨11, _⟩ => ⟨S37x3x8x4x128, .f32⟩
  | .hbm, ⟨12, _⟩ => ⟨S37x3x4x8x128, .f32⟩
  | .hbm, ⟨13, _⟩ => ⟨S111x4x8x128, .f32⟩
  | .hbm, ⟨14, _⟩ => ⟨S3x512, .f32⟩
  | .hbm, ⟨15, _⟩ => ⟨S_, .f32⟩
  | .hbm, ⟨16, _⟩ => ⟨S3, .f32⟩
  | .hbm, ⟨17, _⟩ => ⟨S1, .f32⟩
  | .hbm, ⟨18, _⟩ => ⟨S_, .f32⟩
  | .hbm, ⟨19, _⟩ => ⟨S1, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S1, .f32⟩
  | .hbm, ⟨25, _⟩ => ⟨S_, .f32⟩
  | .hbm, ⟨26, _⟩ => ⟨S_, .f32⟩
  | .hbm, ⟨27, _⟩ => ⟨S_, .f32⟩
  | .local .scVector .vmem, ⟨0, _⟩ => ⟨S111x128, .f32⟩
  | .local .scVector .vmem, ⟨1, _⟩ => ⟨S4x2x128, .f32⟩
  | .local .scVector .vmem, ⟨2, _⟩ => ⟨S128, .i32⟩
  | .local .scVector .vmem, ⟨3, _⟩ => ⟨S384, .i32⟩
  | .local .scVector .vmem, ⟨4, _⟩ => ⟨S48, .f32⟩
  | _, _ => ⟨S8x512, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v1_scv : Ref sig .scVector := ⟨.hbm, 6, rfl⟩
abbrev main_v4_scv : Ref sig .scVector := ⟨.hbm, 9, rfl⟩
abbrev main_v8_scv : Ref sig .scVector := ⟨.hbm, 13, rfl⟩
abbrev main_c_scv : Ref sig .scVector := ⟨.hbm, 4, rfl⟩
abbrev main_v9_scv : Ref sig .scVector := ⟨.hbm, 14, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 4 → Nat :=
  let c0_i32_10 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c0_i32_11 : BitVec 32 := 0#32
  ![0, v18.toNat, v28.toNat, 0]
def k0_off2 (i : grid0.Coords) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c3_i32 : BitVec 32 := 3#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_14 : BitVec 32 := 0#32
  let c0_i32_15 : BitVec 32 := 0#32
  ![v28.toNat, 3, v18.toNat, 0, 0]
def k0_off3 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c0_i32_19 : BitVec 32 := 0#32
  ![v18.toNat, v28.toNat, 0]
@[reducible] def k0_t1_loop : Scf.Loop 32 :=
  let c0_i32_33 : BitVec 32 := 0#32
  let c8_i32_34 : BitVec 32 := 8#32
  let v55 : BitVec 32 := Scalar.addi c0_i32_33 c8_i32_34
  let c1_i32_35 : BitVec 32 := 1#32
  ⟨c0_i32_33, v55, c1_i32_35⟩
def k0_off4 (k0_t1 : Fin k0_t1_loop.trips) : Fin 1 → Nat :=
  let c0_i32_33 : BitVec 32 := 0#32
  let c1_i32_35 : BitVec 32 := 1#32
  let arg16 : BitVec 32 := Scf.iv c0_i32_33 c1_i32_35 k0_t1
  let c16_i32_40 : BitVec 32 := 16#32
  let v61 : BitVec 32 := Scalar.muli arg16 c16_i32_40
  let v64 : Index := Scalar.indexCast v61
  ![v64.toNat]

def k0_chk1 (v90 : IVec S16 32) : Prop :=
  (∀ a x, ((![v90] : Fin 1 → IVec S16 32) a x).toNat < S384.size a)
theorem k0_idx1_inb : ∀ (v90 : IVec S16 32) (k0_hw1 : k0_chk1 v90), ∀ a x, ((![v90] : Fin 1 → IVec S16 32) a x).toNat < S384.size a := fun v90 k0_hw1 => k0_hw1

def k0_chk2 (v63 : IVec S16 32) (v93 : IVec S16 32) : Prop :=
  (∀ a x, ((![v93, v63] : Fin 2 → IVec S16 32) a x).toNat < S111x128.size a)
theorem k0_idx2_inb : ∀ (v63 : IVec S16 32) (v93 : IVec S16 32) (k0_hw2 : k0_chk2 v63 v93), ∀ a x, ((![v93, v63] : Fin 2 → IVec S16 32) a x).toNat < S111x128.size a := fun v63 v93 k0_hw2 => k0_hw2

def k0_chk3 (v63 : IVec S16 32) (v96 : IVec S16 32) : Prop :=
  (∀ a x, ((![v96, v63] : Fin 2 → IVec S16 32) a x).toNat < S111x128.size a)
theorem k0_idx3_inb : ∀ (v63 : IVec S16 32) (v96 : IVec S16 32) (k0_hw3 : k0_chk3 v63 v96), ∀ a x, ((![v96, v63] : Fin 2 → IVec S16 32) a x).toNat < S111x128.size a := fun v63 v96 k0_hw3 => k0_hw3

def k0_chk4 (v63 : IVec S16 32) (v99 : IVec S16 32) : Prop :=
  (∀ a x, ((![v99, v63] : Fin 2 → IVec S16 32) a x).toNat < S111x128.size a)
theorem k0_idx4_inb : ∀ (v63 : IVec S16 32) (v99 : IVec S16 32) (k0_hw4 : k0_chk4 v63 v99), ∀ a x, ((![v99, v63] : Fin 2 → IVec S16 32) a x).toNat < S111x128.size a := fun v63 v99 k0_hw4 => k0_hw4

def k0_chk5 (v102 : IVec S16 32) : Prop :=
  (∀ a x, ((![v102] : Fin 1 → IVec S16 32) a x).toNat < S384.size a)
theorem k0_idx5_inb : ∀ (v102 : IVec S16 32) (k0_hw5 : k0_chk5 v102), ∀ a x, ((![v102] : Fin 1 → IVec S16 32) a x).toNat < S384.size a := fun v102 k0_hw5 => k0_hw5

def k0_chk6 (v63 : IVec S16 32) (v105 : IVec S16 32) : Prop :=
  (∀ a x, ((![v105, v63] : Fin 2 → IVec S16 32) a x).toNat < S111x128.size a)
theorem k0_idx6_inb : ∀ (v63 : IVec S16 32) (v105 : IVec S16 32) (k0_hw6 : k0_chk6 v63 v105), ∀ a x, ((![v105, v63] : Fin 2 → IVec S16 32) a x).toNat < S111x128.size a := fun v63 v105 k0_hw6 => k0_hw6

def k0_chk7 (v63 : IVec S16 32) (v108 : IVec S16 32) : Prop :=
  (∀ a x, ((![v108, v63] : Fin 2 → IVec S16 32) a x).toNat < S111x128.size a)
theorem k0_idx7_inb : ∀ (v63 : IVec S16 32) (v108 : IVec S16 32) (k0_hw7 : k0_chk7 v63 v108), ∀ a x, ((![v108, v63] : Fin 2 → IVec S16 32) a x).toNat < S111x128.size a := fun v63 v108 k0_hw7 => k0_hw7

def k0_chk8 (v63 : IVec S16 32) (v111 : IVec S16 32) : Prop :=
  (∀ a x, ((![v111, v63] : Fin 2 → IVec S16 32) a x).toNat < S111x128.size a)
theorem k0_idx8_inb : ∀ (v63 : IVec S16 32) (v111 : IVec S16 32) (k0_hw8 : k0_chk8 v63 v111), ∀ a x, ((![v111, v63] : Fin 2 → IVec S16 32) a x).toNat < S111x128.size a := fun v63 v111 k0_hw8 => k0_hw8

def k0_chk9 (v114 : IVec S16 32) : Prop :=
  (∀ a x, ((![v114] : Fin 1 → IVec S16 32) a x).toNat < S384.size a)
theorem k0_idx9_inb : ∀ (v114 : IVec S16 32) (k0_hw9 : k0_chk9 v114), ∀ a x, ((![v114] : Fin 1 → IVec S16 32) a x).toNat < S384.size a := fun v114 k0_hw9 => k0_hw9

def k0_chk10 (v63 : IVec S16 32) (v117 : IVec S16 32) : Prop :=
  (∀ a x, ((![v117, v63] : Fin 2 → IVec S16 32) a x).toNat < S111x128.size a)
theorem k0_idx10_inb : ∀ (v63 : IVec S16 32) (v117 : IVec S16 32) (k0_hw10 : k0_chk10 v63 v117), ∀ a x, ((![v117, v63] : Fin 2 → IVec S16 32) a x).toNat < S111x128.size a := fun v63 v117 k0_hw10 => k0_hw10

def k0_chk11 (v63 : IVec S16 32) (v120 : IVec S16 32) : Prop :=
  (∀ a x, ((![v120, v63] : Fin 2 → IVec S16 32) a x).toNat < S111x128.size a)
theorem k0_idx11_inb : ∀ (v63 : IVec S16 32) (v120 : IVec S16 32) (k0_hw11 : k0_chk11 v63 v120), ∀ a x, ((![v120, v63] : Fin 2 → IVec S16 32) a x).toNat < S111x128.size a := fun v63 v120 k0_hw11 => k0_hw11

def k0_chk12 (v63 : IVec S16 32) (v123 : IVec S16 32) : Prop :=
  (∀ a x, ((![v123, v63] : Fin 2 → IVec S16 32) a x).toNat < S111x128.size a)
theorem k0_idx12_inb : ∀ (v63 : IVec S16 32) (v123 : IVec S16 32) (k0_hw12 : k0_chk12 v63 v123), ∀ a x, ((![v123, v63] : Fin 2 → IVec S16 32) a x).toNat < S111x128.size a := fun v63 v123 k0_hw12 => k0_hw12

def k0_chk13 (v126 : IVec S16 32) : Prop :=
  (∀ a x, ((![v126] : Fin 1 → IVec S16 32) a x).toNat < S384.size a)
theorem k0_idx13_inb : ∀ (v126 : IVec S16 32) (k0_hw13 : k0_chk13 v126), ∀ a x, ((![v126] : Fin 1 → IVec S16 32) a x).toNat < S384.size a := fun v126 k0_hw13 => k0_hw13

def k0_chk14 (v63 : IVec S16 32) (v129 : IVec S16 32) : Prop :=
  (∀ a x, ((![v129, v63] : Fin 2 → IVec S16 32) a x).toNat < S111x128.size a)
theorem k0_idx14_inb : ∀ (v63 : IVec S16 32) (v129 : IVec S16 32) (k0_hw14 : k0_chk14 v63 v129), ∀ a x, ((![v129, v63] : Fin 2 → IVec S16 32) a x).toNat < S111x128.size a := fun v63 v129 k0_hw14 => k0_hw14

def k0_chk15 (v63 : IVec S16 32) (v132 : IVec S16 32) : Prop :=
  (∀ a x, ((![v132, v63] : Fin 2 → IVec S16 32) a x).toNat < S111x128.size a)
theorem k0_idx15_inb : ∀ (v63 : IVec S16 32) (v132 : IVec S16 32) (k0_hw15 : k0_chk15 v63 v132), ∀ a x, ((![v132, v63] : Fin 2 → IVec S16 32) a x).toNat < S111x128.size a := fun v63 v132 k0_hw15 => k0_hw15

def k0_chk16 (v63 : IVec S16 32) (v135 : IVec S16 32) : Prop :=
  (∀ a x, ((![v135, v63] : Fin 2 → IVec S16 32) a x).toNat < S111x128.size a)
theorem k0_idx16_inb : ∀ (v63 : IVec S16 32) (v135 : IVec S16 32) (k0_hw16 : k0_chk16 v63 v135), ∀ a x, ((![v135, v63] : Fin 2 → IVec S16 32) a x).toNat < S111x128.size a := fun v63 v135 k0_hw16 => k0_hw16
def k0_off5 (k0_t1 : Fin k0_t1_loop.trips) : Fin 3 → Nat :=
  let c0_i32_65 : BitVec 32 := 0#32
  let v206 : Index := Scalar.indexCast c0_i32_65
  let c0_i32_66 : BitVec 32 := 0#32
  let v207 : Index := Scalar.indexCast c0_i32_66
  let c0_i32_33 : BitVec 32 := 0#32
  let c1_i32_35 : BitVec 32 := 1#32
  let arg16 : BitVec 32 := Scf.iv c0_i32_33 c1_i32_35 k0_t1
  let c16_i32_40 : BitVec 32 := 16#32
  let v61 : BitVec 32 := Scalar.muli arg16 c16_i32_40
  let v208 : Index := Scalar.indexCast v61
  ![0, 0, v208.toNat]
def k0_off6 (k0_t1 : Fin k0_t1_loop.trips) : Fin 3 → Nat :=
  let c0_i32_67 : BitVec 32 := 0#32
  let v210 : Index := Scalar.indexCast c0_i32_67
  let c1_i32_68 : BitVec 32 := 1#32
  let v211 : Index := Scalar.indexCast c1_i32_68
  let c0_i32_33 : BitVec 32 := 0#32
  let c1_i32_35 : BitVec 32 := 1#32
  let arg16 : BitVec 32 := Scf.iv c0_i32_33 c1_i32_35 k0_t1
  let c16_i32_40 : BitVec 32 := 16#32
  let v61 : BitVec 32 := Scalar.muli arg16 c16_i32_40
  let v212 : Index := Scalar.indexCast v61
  ![0, 1, v212.toNat]

def k0_chk17 (v250 : IVec S16 32) : Prop :=
  (∀ a x, ((![v250] : Fin 1 → IVec S16 32) a x).toNat < S384.size a)
theorem k0_idx17_inb : ∀ (v250 : IVec S16 32) (k0_hw17 : k0_chk17 v250), ∀ a x, ((![v250] : Fin 1 → IVec S16 32) a x).toNat < S384.size a := fun v250 k0_hw17 => k0_hw17

def k0_chk18 (v63 : IVec S16 32) (v253 : IVec S16 32) : Prop :=
  (∀ a x, ((![v253, v63] : Fin 2 → IVec S16 32) a x).toNat < S111x128.size a)
theorem k0_idx18_inb : ∀ (v63 : IVec S16 32) (v253 : IVec S16 32) (k0_hw18 : k0_chk18 v63 v253), ∀ a x, ((![v253, v63] : Fin 2 → IVec S16 32) a x).toNat < S111x128.size a := fun v63 v253 k0_hw18 => k0_hw18

def k0_chk19 (v63 : IVec S16 32) (v256 : IVec S16 32) : Prop :=
  (∀ a x, ((![v256, v63] : Fin 2 → IVec S16 32) a x).toNat < S111x128.size a)
theorem k0_idx19_inb : ∀ (v63 : IVec S16 32) (v256 : IVec S16 32) (k0_hw19 : k0_chk19 v63 v256), ∀ a x, ((![v256, v63] : Fin 2 → IVec S16 32) a x).toNat < S111x128.size a := fun v63 v256 k0_hw19 => k0_hw19

def k0_chk20 (v63 : IVec S16 32) (v259 : IVec S16 32) : Prop :=
  (∀ a x, ((![v259, v63] : Fin 2 → IVec S16 32) a x).toNat < S111x128.size a)
theorem k0_idx20_inb : ∀ (v63 : IVec S16 32) (v259 : IVec S16 32) (k0_hw20 : k0_chk20 v63 v259), ∀ a x, ((![v259, v63] : Fin 2 → IVec S16 32) a x).toNat < S111x128.size a := fun v63 v259 k0_hw20 => k0_hw20

def k0_chk21 (v262 : IVec S16 32) : Prop :=
  (∀ a x, ((![v262] : Fin 1 → IVec S16 32) a x).toNat < S384.size a)
theorem k0_idx21_inb : ∀ (v262 : IVec S16 32) (k0_hw21 : k0_chk21 v262), ∀ a x, ((![v262] : Fin 1 → IVec S16 32) a x).toNat < S384.size a := fun v262 k0_hw21 => k0_hw21

def k0_chk22 (v63 : IVec S16 32) (v265 : IVec S16 32) : Prop :=
  (∀ a x, ((![v265, v63] : Fin 2 → IVec S16 32) a x).toNat < S111x128.size a)
theorem k0_idx22_inb : ∀ (v63 : IVec S16 32) (v265 : IVec S16 32) (k0_hw22 : k0_chk22 v63 v265), ∀ a x, ((![v265, v63] : Fin 2 → IVec S16 32) a x).toNat < S111x128.size a := fun v63 v265 k0_hw22 => k0_hw22

def k0_chk23 (v63 : IVec S16 32) (v268 : IVec S16 32) : Prop :=
  (∀ a x, ((![v268, v63] : Fin 2 → IVec S16 32) a x).toNat < S111x128.size a)
theorem k0_idx23_inb : ∀ (v63 : IVec S16 32) (v268 : IVec S16 32) (k0_hw23 : k0_chk23 v63 v268), ∀ a x, ((![v268, v63] : Fin 2 → IVec S16 32) a x).toNat < S111x128.size a := fun v63 v268 k0_hw23 => k0_hw23

def k0_chk24 (v63 : IVec S16 32) (v271 : IVec S16 32) : Prop :=
  (∀ a x, ((![v271, v63] : Fin 2 → IVec S16 32) a x).toNat < S111x128.size a)
theorem k0_idx24_inb : ∀ (v63 : IVec S16 32) (v271 : IVec S16 32) (k0_hw24 : k0_chk24 v63 v271), ∀ a x, ((![v271, v63] : Fin 2 → IVec S16 32) a x).toNat < S111x128.size a := fun v63 v271 k0_hw24 => k0_hw24

def k0_chk25 (v274 : IVec S16 32) : Prop :=
  (∀ a x, ((![v274] : Fin 1 → IVec S16 32) a x).toNat < S384.size a)
theorem k0_idx25_inb : ∀ (v274 : IVec S16 32) (k0_hw25 : k0_chk25 v274), ∀ a x, ((![v274] : Fin 1 → IVec S16 32) a x).toNat < S384.size a := fun v274 k0_hw25 => k0_hw25

def k0_chk26 (v63 : IVec S16 32) (v277 : IVec S16 32) : Prop :=
  (∀ a x, ((![v277, v63] : Fin 2 → IVec S16 32) a x).toNat < S111x128.size a)
theorem k0_idx26_inb : ∀ (v63 : IVec S16 32) (v277 : IVec S16 32) (k0_hw26 : k0_chk26 v63 v277), ∀ a x, ((![v277, v63] : Fin 2 → IVec S16 32) a x).toNat < S111x128.size a := fun v63 v277 k0_hw26 => k0_hw26

def k0_chk27 (v63 : IVec S16 32) (v280 : IVec S16 32) : Prop :=
  (∀ a x, ((![v280, v63] : Fin 2 → IVec S16 32) a x).toNat < S111x128.size a)
theorem k0_idx27_inb : ∀ (v63 : IVec S16 32) (v280 : IVec S16 32) (k0_hw27 : k0_chk27 v63 v280), ∀ a x, ((![v280, v63] : Fin 2 → IVec S16 32) a x).toNat < S111x128.size a := fun v63 v280 k0_hw27 => k0_hw27

def k0_chk28 (v63 : IVec S16 32) (v283 : IVec S16 32) : Prop :=
  (∀ a x, ((![v283, v63] : Fin 2 → IVec S16 32) a x).toNat < S111x128.size a)
theorem k0_idx28_inb : ∀ (v63 : IVec S16 32) (v283 : IVec S16 32) (k0_hw28 : k0_chk28 v63 v283), ∀ a x, ((![v283, v63] : Fin 2 → IVec S16 32) a x).toNat < S111x128.size a := fun v63 v283 k0_hw28 => k0_hw28

def k0_chk29 (v286 : IVec S16 32) : Prop :=
  (∀ a x, ((![v286] : Fin 1 → IVec S16 32) a x).toNat < S384.size a)
theorem k0_idx29_inb : ∀ (v286 : IVec S16 32) (k0_hw29 : k0_chk29 v286), ∀ a x, ((![v286] : Fin 1 → IVec S16 32) a x).toNat < S384.size a := fun v286 k0_hw29 => k0_hw29

def k0_chk30 (v63 : IVec S16 32) (v289 : IVec S16 32) : Prop :=
  (∀ a x, ((![v289, v63] : Fin 2 → IVec S16 32) a x).toNat < S111x128.size a)
theorem k0_idx30_inb : ∀ (v63 : IVec S16 32) (v289 : IVec S16 32) (k0_hw30 : k0_chk30 v63 v289), ∀ a x, ((![v289, v63] : Fin 2 → IVec S16 32) a x).toNat < S111x128.size a := fun v63 v289 k0_hw30 => k0_hw30

def k0_chk31 (v63 : IVec S16 32) (v292 : IVec S16 32) : Prop :=
  (∀ a x, ((![v292, v63] : Fin 2 → IVec S16 32) a x).toNat < S111x128.size a)
theorem k0_idx31_inb : ∀ (v63 : IVec S16 32) (v292 : IVec S16 32) (k0_hw31 : k0_chk31 v63 v292), ∀ a x, ((![v292, v63] : Fin 2 → IVec S16 32) a x).toNat < S111x128.size a := fun v63 v292 k0_hw31 => k0_hw31

def k0_chk32 (v63 : IVec S16 32) (v295 : IVec S16 32) : Prop :=
  (∀ a x, ((![v295, v63] : Fin 2 → IVec S16 32) a x).toNat < S111x128.size a)
theorem k0_idx32_inb : ∀ (v63 : IVec S16 32) (v295 : IVec S16 32) (k0_hw32 : k0_chk32 v63 v295), ∀ a x, ((![v295, v63] : Fin 2 → IVec S16 32) a x).toNat < S111x128.size a := fun v63 v295 k0_hw32 => k0_hw32
def k0_off7 (k0_t1 : Fin k0_t1_loop.trips) : Fin 3 → Nat :=
  let c1_i32_91 : BitVec 32 := 1#32
  let v366 : Index := Scalar.indexCast c1_i32_91
  let c0_i32_92 : BitVec 32 := 0#32
  let v367 : Index := Scalar.indexCast c0_i32_92
  let c0_i32_33 : BitVec 32 := 0#32
  let c1_i32_35 : BitVec 32 := 1#32
  let arg16 : BitVec 32 := Scf.iv c0_i32_33 c1_i32_35 k0_t1
  let c16_i32_40 : BitVec 32 := 16#32
  let v61 : BitVec 32 := Scalar.muli arg16 c16_i32_40
  let v368 : Index := Scalar.indexCast v61
  ![1, 0, v368.toNat]
def k0_off8 (k0_t1 : Fin k0_t1_loop.trips) : Fin 3 → Nat :=
  let c1_i32_93 : BitVec 32 := 1#32
  let v370 : Index := Scalar.indexCast c1_i32_93
  let c1_i32_94 : BitVec 32 := 1#32
  let v371 : Index := Scalar.indexCast c1_i32_94
  let c0_i32_33 : BitVec 32 := 0#32
  let c1_i32_35 : BitVec 32 := 1#32
  let arg16 : BitVec 32 := Scf.iv c0_i32_33 c1_i32_35 k0_t1
  let c16_i32_40 : BitVec 32 := 16#32
  let v61 : BitVec 32 := Scalar.muli arg16 c16_i32_40
  let v372 : Index := Scalar.indexCast v61
  ![1, 1, v372.toNat]

def k0_chk33 (v427 : IVec S16 32) : Prop :=
  (∀ a x, ((![v427] : Fin 1 → IVec S16 32) a x).toNat < S384.size a)
theorem k0_idx33_inb : ∀ (v427 : IVec S16 32) (k0_hw33 : k0_chk33 v427), ∀ a x, ((![v427] : Fin 1 → IVec S16 32) a x).toNat < S384.size a := fun v427 k0_hw33 => k0_hw33

def k0_chk34 (v63 : IVec S16 32) (v430 : IVec S16 32) : Prop :=
  (∀ a x, ((![v430, v63] : Fin 2 → IVec S16 32) a x).toNat < S111x128.size a)
theorem k0_idx34_inb : ∀ (v63 : IVec S16 32) (v430 : IVec S16 32) (k0_hw34 : k0_chk34 v63 v430), ∀ a x, ((![v430, v63] : Fin 2 → IVec S16 32) a x).toNat < S111x128.size a := fun v63 v430 k0_hw34 => k0_hw34

def k0_chk35 (v63 : IVec S16 32) (v433 : IVec S16 32) : Prop :=
  (∀ a x, ((![v433, v63] : Fin 2 → IVec S16 32) a x).toNat < S111x128.size a)
theorem k0_idx35_inb : ∀ (v63 : IVec S16 32) (v433 : IVec S16 32) (k0_hw35 : k0_chk35 v63 v433), ∀ a x, ((![v433, v63] : Fin 2 → IVec S16 32) a x).toNat < S111x128.size a := fun v63 v433 k0_hw35 => k0_hw35

def k0_chk36 (v63 : IVec S16 32) (v436 : IVec S16 32) : Prop :=
  (∀ a x, ((![v436, v63] : Fin 2 → IVec S16 32) a x).toNat < S111x128.size a)
theorem k0_idx36_inb : ∀ (v63 : IVec S16 32) (v436 : IVec S16 32) (k0_hw36 : k0_chk36 v63 v436), ∀ a x, ((![v436, v63] : Fin 2 → IVec S16 32) a x).toNat < S111x128.size a := fun v63 v436 k0_hw36 => k0_hw36

def k0_chk37 (v439 : IVec S16 32) : Prop :=
  (∀ a x, ((![v439] : Fin 1 → IVec S16 32) a x).toNat < S384.size a)
theorem k0_idx37_inb : ∀ (v439 : IVec S16 32) (k0_hw37 : k0_chk37 v439), ∀ a x, ((![v439] : Fin 1 → IVec S16 32) a x).toNat < S384.size a := fun v439 k0_hw37 => k0_hw37

def k0_chk38 (v63 : IVec S16 32) (v442 : IVec S16 32) : Prop :=
  (∀ a x, ((![v442, v63] : Fin 2 → IVec S16 32) a x).toNat < S111x128.size a)
theorem k0_idx38_inb : ∀ (v63 : IVec S16 32) (v442 : IVec S16 32) (k0_hw38 : k0_chk38 v63 v442), ∀ a x, ((![v442, v63] : Fin 2 → IVec S16 32) a x).toNat < S111x128.size a := fun v63 v442 k0_hw38 => k0_hw38

def k0_chk39 (v63 : IVec S16 32) (v445 : IVec S16 32) : Prop :=
  (∀ a x, ((![v445, v63] : Fin 2 → IVec S16 32) a x).toNat < S111x128.size a)
theorem k0_idx39_inb : ∀ (v63 : IVec S16 32) (v445 : IVec S16 32) (k0_hw39 : k0_chk39 v63 v445), ∀ a x, ((![v445, v63] : Fin 2 → IVec S16 32) a x).toNat < S111x128.size a := fun v63 v445 k0_hw39 => k0_hw39

def k0_chk40 (v63 : IVec S16 32) (v448 : IVec S16 32) : Prop :=
  (∀ a x, ((![v448, v63] : Fin 2 → IVec S16 32) a x).toNat < S111x128.size a)
theorem k0_idx40_inb : ∀ (v63 : IVec S16 32) (v448 : IVec S16 32) (k0_hw40 : k0_chk40 v63 v448), ∀ a x, ((![v448, v63] : Fin 2 → IVec S16 32) a x).toNat < S111x128.size a := fun v63 v448 k0_hw40 => k0_hw40

def k0_chk41 (v451 : IVec S16 32) : Prop :=
  (∀ a x, ((![v451] : Fin 1 → IVec S16 32) a x).toNat < S384.size a)
theorem k0_idx41_inb : ∀ (v451 : IVec S16 32) (k0_hw41 : k0_chk41 v451), ∀ a x, ((![v451] : Fin 1 → IVec S16 32) a x).toNat < S384.size a := fun v451 k0_hw41 => k0_hw41

def k0_chk42 (v63 : IVec S16 32) (v454 : IVec S16 32) : Prop :=
  (∀ a x, ((![v454, v63] : Fin 2 → IVec S16 32) a x).toNat < S111x128.size a)
theorem k0_idx42_inb : ∀ (v63 : IVec S16 32) (v454 : IVec S16 32) (k0_hw42 : k0_chk42 v63 v454), ∀ a x, ((![v454, v63] : Fin 2 → IVec S16 32) a x).toNat < S111x128.size a := fun v63 v454 k0_hw42 => k0_hw42

def k0_chk43 (v63 : IVec S16 32) (v457 : IVec S16 32) : Prop :=
  (∀ a x, ((![v457, v63] : Fin 2 → IVec S16 32) a x).toNat < S111x128.size a)
theorem k0_idx43_inb : ∀ (v63 : IVec S16 32) (v457 : IVec S16 32) (k0_hw43 : k0_chk43 v63 v457), ∀ a x, ((![v457, v63] : Fin 2 → IVec S16 32) a x).toNat < S111x128.size a := fun v63 v457 k0_hw43 => k0_hw43

def k0_chk44 (v63 : IVec S16 32) (v460 : IVec S16 32) : Prop :=
  (∀ a x, ((![v460, v63] : Fin 2 → IVec S16 32) a x).toNat < S111x128.size a)
theorem k0_idx44_inb : ∀ (v63 : IVec S16 32) (v460 : IVec S16 32) (k0_hw44 : k0_chk44 v63 v460), ∀ a x, ((![v460, v63] : Fin 2 → IVec S16 32) a x).toNat < S111x128.size a := fun v63 v460 k0_hw44 => k0_hw44

def k0_chk45 (v463 : IVec S16 32) : Prop :=
  (∀ a x, ((![v463] : Fin 1 → IVec S16 32) a x).toNat < S384.size a)
theorem k0_idx45_inb : ∀ (v463 : IVec S16 32) (k0_hw45 : k0_chk45 v463), ∀ a x, ((![v463] : Fin 1 → IVec S16 32) a x).toNat < S384.size a := fun v463 k0_hw45 => k0_hw45

def k0_chk46 (v63 : IVec S16 32) (v466 : IVec S16 32) : Prop :=
  (∀ a x, ((![v466, v63] : Fin 2 → IVec S16 32) a x).toNat < S111x128.size a)
theorem k0_idx46_inb : ∀ (v63 : IVec S16 32) (v466 : IVec S16 32) (k0_hw46 : k0_chk46 v63 v466), ∀ a x, ((![v466, v63] : Fin 2 → IVec S16 32) a x).toNat < S111x128.size a := fun v63 v466 k0_hw46 => k0_hw46

def k0_chk47 (v63 : IVec S16 32) (v469 : IVec S16 32) : Prop :=
  (∀ a x, ((![v469, v63] : Fin 2 → IVec S16 32) a x).toNat < S111x128.size a)
theorem k0_idx47_inb : ∀ (v63 : IVec S16 32) (v469 : IVec S16 32) (k0_hw47 : k0_chk47 v63 v469), ∀ a x, ((![v469, v63] : Fin 2 → IVec S16 32) a x).toNat < S111x128.size a := fun v63 v469 k0_hw47 => k0_hw47

def k0_chk48 (v63 : IVec S16 32) (v472 : IVec S16 32) : Prop :=
  (∀ a x, ((![v472, v63] : Fin 2 → IVec S16 32) a x).toNat < S111x128.size a)
theorem k0_idx48_inb : ∀ (v63 : IVec S16 32) (v472 : IVec S16 32) (k0_hw48 : k0_chk48 v63 v472), ∀ a x, ((![v472, v63] : Fin 2 → IVec S16 32) a x).toNat < S111x128.size a := fun v63 v472 k0_hw48 => k0_hw48
def k0_off9 (k0_t1 : Fin k0_t1_loop.trips) : Fin 3 → Nat :=
  let c2_i32_120 : BitVec 32 := 2#32
  let v543 : Index := Scalar.indexCast c2_i32_120
  let c0_i32_121 : BitVec 32 := 0#32
  let v544 : Index := Scalar.indexCast c0_i32_121
  let c0_i32_33 : BitVec 32 := 0#32
  let c1_i32_35 : BitVec 32 := 1#32
  let arg16 : BitVec 32 := Scf.iv c0_i32_33 c1_i32_35 k0_t1
  let c16_i32_40 : BitVec 32 := 16#32
  let v61 : BitVec 32 := Scalar.muli arg16 c16_i32_40
  let v545 : Index := Scalar.indexCast v61
  ![2, 0, v545.toNat]
def k0_off10 (k0_t1 : Fin k0_t1_loop.trips) : Fin 3 → Nat :=
  let c2_i32_122 : BitVec 32 := 2#32
  let v547 : Index := Scalar.indexCast c2_i32_122
  let c1_i32_123 : BitVec 32 := 1#32
  let v548 : Index := Scalar.indexCast c1_i32_123
  let c0_i32_33 : BitVec 32 := 0#32
  let c1_i32_35 : BitVec 32 := 1#32
  let arg16 : BitVec 32 := Scf.iv c0_i32_33 c1_i32_35 k0_t1
  let c16_i32_40 : BitVec 32 := 16#32
  let v61 : BitVec 32 := Scalar.muli arg16 c16_i32_40
  let v549 : Index := Scalar.indexCast v61
  ![2, 1, v549.toNat]

def k0_chk49 (v598 : IVec S16 32) : Prop :=
  (∀ a x, ((![v598] : Fin 1 → IVec S16 32) a x).toNat < S384.size a)
theorem k0_idx49_inb : ∀ (v598 : IVec S16 32) (k0_hw49 : k0_chk49 v598), ∀ a x, ((![v598] : Fin 1 → IVec S16 32) a x).toNat < S384.size a := fun v598 k0_hw49 => k0_hw49

def k0_chk50 (v63 : IVec S16 32) (v601 : IVec S16 32) : Prop :=
  (∀ a x, ((![v601, v63] : Fin 2 → IVec S16 32) a x).toNat < S111x128.size a)
theorem k0_idx50_inb : ∀ (v63 : IVec S16 32) (v601 : IVec S16 32) (k0_hw50 : k0_chk50 v63 v601), ∀ a x, ((![v601, v63] : Fin 2 → IVec S16 32) a x).toNat < S111x128.size a := fun v63 v601 k0_hw50 => k0_hw50

def k0_chk51 (v63 : IVec S16 32) (v604 : IVec S16 32) : Prop :=
  (∀ a x, ((![v604, v63] : Fin 2 → IVec S16 32) a x).toNat < S111x128.size a)
theorem k0_idx51_inb : ∀ (v63 : IVec S16 32) (v604 : IVec S16 32) (k0_hw51 : k0_chk51 v63 v604), ∀ a x, ((![v604, v63] : Fin 2 → IVec S16 32) a x).toNat < S111x128.size a := fun v63 v604 k0_hw51 => k0_hw51

def k0_chk52 (v63 : IVec S16 32) (v607 : IVec S16 32) : Prop :=
  (∀ a x, ((![v607, v63] : Fin 2 → IVec S16 32) a x).toNat < S111x128.size a)
theorem k0_idx52_inb : ∀ (v63 : IVec S16 32) (v607 : IVec S16 32) (k0_hw52 : k0_chk52 v63 v607), ∀ a x, ((![v607, v63] : Fin 2 → IVec S16 32) a x).toNat < S111x128.size a := fun v63 v607 k0_hw52 => k0_hw52

def k0_chk53 (v610 : IVec S16 32) : Prop :=
  (∀ a x, ((![v610] : Fin 1 → IVec S16 32) a x).toNat < S384.size a)
theorem k0_idx53_inb : ∀ (v610 : IVec S16 32) (k0_hw53 : k0_chk53 v610), ∀ a x, ((![v610] : Fin 1 → IVec S16 32) a x).toNat < S384.size a := fun v610 k0_hw53 => k0_hw53

def k0_chk54 (v63 : IVec S16 32) (v613 : IVec S16 32) : Prop :=
  (∀ a x, ((![v613, v63] : Fin 2 → IVec S16 32) a x).toNat < S111x128.size a)
theorem k0_idx54_inb : ∀ (v63 : IVec S16 32) (v613 : IVec S16 32) (k0_hw54 : k0_chk54 v63 v613), ∀ a x, ((![v613, v63] : Fin 2 → IVec S16 32) a x).toNat < S111x128.size a := fun v63 v613 k0_hw54 => k0_hw54

def k0_chk55 (v63 : IVec S16 32) (v616 : IVec S16 32) : Prop :=
  (∀ a x, ((![v616, v63] : Fin 2 → IVec S16 32) a x).toNat < S111x128.size a)
theorem k0_idx55_inb : ∀ (v63 : IVec S16 32) (v616 : IVec S16 32) (k0_hw55 : k0_chk55 v63 v616), ∀ a x, ((![v616, v63] : Fin 2 → IVec S16 32) a x).toNat < S111x128.size a := fun v63 v616 k0_hw55 => k0_hw55

def k0_chk56 (v63 : IVec S16 32) (v619 : IVec S16 32) : Prop :=
  (∀ a x, ((![v619, v63] : Fin 2 → IVec S16 32) a x).toNat < S111x128.size a)
theorem k0_idx56_inb : ∀ (v63 : IVec S16 32) (v619 : IVec S16 32) (k0_hw56 : k0_chk56 v63 v619), ∀ a x, ((![v619, v63] : Fin 2 → IVec S16 32) a x).toNat < S111x128.size a := fun v63 v619 k0_hw56 => k0_hw56

def k0_chk57 (v622 : IVec S16 32) : Prop :=
  (∀ a x, ((![v622] : Fin 1 → IVec S16 32) a x).toNat < S384.size a)
theorem k0_idx57_inb : ∀ (v622 : IVec S16 32) (k0_hw57 : k0_chk57 v622), ∀ a x, ((![v622] : Fin 1 → IVec S16 32) a x).toNat < S384.size a := fun v622 k0_hw57 => k0_hw57

def k0_chk58 (v63 : IVec S16 32) (v625 : IVec S16 32) : Prop :=
  (∀ a x, ((![v625, v63] : Fin 2 → IVec S16 32) a x).toNat < S111x128.size a)
theorem k0_idx58_inb : ∀ (v63 : IVec S16 32) (v625 : IVec S16 32) (k0_hw58 : k0_chk58 v63 v625), ∀ a x, ((![v625, v63] : Fin 2 → IVec S16 32) a x).toNat < S111x128.size a := fun v63 v625 k0_hw58 => k0_hw58

def k0_chk59 (v63 : IVec S16 32) (v628 : IVec S16 32) : Prop :=
  (∀ a x, ((![v628, v63] : Fin 2 → IVec S16 32) a x).toNat < S111x128.size a)
theorem k0_idx59_inb : ∀ (v63 : IVec S16 32) (v628 : IVec S16 32) (k0_hw59 : k0_chk59 v63 v628), ∀ a x, ((![v628, v63] : Fin 2 → IVec S16 32) a x).toNat < S111x128.size a := fun v63 v628 k0_hw59 => k0_hw59

def k0_chk60 (v63 : IVec S16 32) (v631 : IVec S16 32) : Prop :=
  (∀ a x, ((![v631, v63] : Fin 2 → IVec S16 32) a x).toNat < S111x128.size a)
theorem k0_idx60_inb : ∀ (v63 : IVec S16 32) (v631 : IVec S16 32) (k0_hw60 : k0_chk60 v63 v631), ∀ a x, ((![v631, v63] : Fin 2 → IVec S16 32) a x).toNat < S111x128.size a := fun v63 v631 k0_hw60 => k0_hw60

def k0_chk61 (v634 : IVec S16 32) : Prop :=
  (∀ a x, ((![v634] : Fin 1 → IVec S16 32) a x).toNat < S384.size a)
theorem k0_idx61_inb : ∀ (v634 : IVec S16 32) (k0_hw61 : k0_chk61 v634), ∀ a x, ((![v634] : Fin 1 → IVec S16 32) a x).toNat < S384.size a := fun v634 k0_hw61 => k0_hw61

def k0_chk62 (v63 : IVec S16 32) (v637 : IVec S16 32) : Prop :=
  (∀ a x, ((![v637, v63] : Fin 2 → IVec S16 32) a x).toNat < S111x128.size a)
theorem k0_idx62_inb : ∀ (v63 : IVec S16 32) (v637 : IVec S16 32) (k0_hw62 : k0_chk62 v63 v637), ∀ a x, ((![v637, v63] : Fin 2 → IVec S16 32) a x).toNat < S111x128.size a := fun v63 v637 k0_hw62 => k0_hw62

def k0_chk63 (v63 : IVec S16 32) (v640 : IVec S16 32) : Prop :=
  (∀ a x, ((![v640, v63] : Fin 2 → IVec S16 32) a x).toNat < S111x128.size a)
theorem k0_idx63_inb : ∀ (v63 : IVec S16 32) (v640 : IVec S16 32) (k0_hw63 : k0_chk63 v63 v640), ∀ a x, ((![v640, v63] : Fin 2 → IVec S16 32) a x).toNat < S111x128.size a := fun v63 v640 k0_hw63 => k0_hw63

def k0_chk64 (v63 : IVec S16 32) (v643 : IVec S16 32) : Prop :=
  (∀ a x, ((![v643, v63] : Fin 2 → IVec S16 32) a x).toNat < S111x128.size a)
theorem k0_idx64_inb : ∀ (v63 : IVec S16 32) (v643 : IVec S16 32) (k0_hw64 : k0_chk64 v63 v643), ∀ a x, ((![v643, v63] : Fin 2 → IVec S16 32) a x).toNat < S111x128.size a := fun v63 v643 k0_hw64 => k0_hw64
def k0_off11 (k0_t1 : Fin k0_t1_loop.trips) : Fin 3 → Nat :=
  let c3_i32_148 : BitVec 32 := 3#32
  let v714 : Index := Scalar.indexCast c3_i32_148
  let c0_i32_149 : BitVec 32 := 0#32
  let v715 : Index := Scalar.indexCast c0_i32_149
  let c0_i32_33 : BitVec 32 := 0#32
  let c1_i32_35 : BitVec 32 := 1#32
  let arg16 : BitVec 32 := Scf.iv c0_i32_33 c1_i32_35 k0_t1
  let c16_i32_40 : BitVec 32 := 16#32
  let v61 : BitVec 32 := Scalar.muli arg16 c16_i32_40
  let v716 : Index := Scalar.indexCast v61
  ![3, 0, v716.toNat]
def k0_off12 (k0_t1 : Fin k0_t1_loop.trips) : Fin 3 → Nat :=
  let c3_i32_150 : BitVec 32 := 3#32
  let v718 : Index := Scalar.indexCast c3_i32_150
  let c1_i32_151 : BitVec 32 := 1#32
  let v719 : Index := Scalar.indexCast c1_i32_151
  let c0_i32_33 : BitVec 32 := 0#32
  let c1_i32_35 : BitVec 32 := 1#32
  let arg16 : BitVec 32 := Scf.iv c0_i32_33 c1_i32_35 k0_t1
  let c16_i32_40 : BitVec 32 := 16#32
  let v61 : BitVec 32 := Scalar.muli arg16 c16_i32_40
  let v720 : Index := Scalar.indexCast v61
  ![3, 1, v720.toNat]
def k0_off13 (i : grid0.Coords) : Fin 2 → Nat :=
  let c0_i32_37 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v60 : BitVec 32 := Scalar.muli v1 c16_i32
  ![0, v60.toNat]
def k0_off14 (i : grid0.Coords) : Fin 2 → Nat :=
  let c1_i32_38 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v60 : BitVec 32 := Scalar.muli v1 c16_i32
  ![1, v60.toNat]
def k0_off15 (i : grid0.Coords) : Fin 2 → Nat :=
  let c2_i32_39 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v60 : BitVec 32 := Scalar.muli v1 c16_i32
  ![2, v60.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x512 : Shape := ⟨2, ![8, 512]⟩
abbrev S8x512x7x2 : Shape := ⟨4, ![8, 512, 7, 2]⟩
abbrev S8x512x37x3 : Shape := ⟨4, ![8, 512, 37, 3]⟩
abbrev S8x512x37 : Shape := ⟨3, ![8, 512, 37]⟩
abbrev S21x4x4 : Shape := ⟨3, ![21, 4, 4]⟩
abbrev S21x4 : Shape := ⟨2, ![21, 4]⟩
abbrev S_ : Shape := ⟨0, ![]⟩
abbrev S8x512x1 : Shape := ⟨3, ![8, 512, 1]⟩
abbrev S8x512x4x4 : Shape := ⟨4, ![8, 512, 4, 4]⟩
abbrev S8x512x1x37x3 : Shape := ⟨5, ![8, 512, 1, 37, 3]⟩
abbrev S8x512x4x37x3 : Shape := ⟨5, ![8, 512, 4, 37, 3]⟩
abbrev S8x512x4x4x1 : Shape := ⟨5, ![8, 512, 4, 4, 1]⟩
abbrev S8x512x4x4x3 : Shape := ⟨5, ![8, 512, 4, 4, 3]⟩
abbrev S8x512x4x4x3x1 : Shape := ⟨6, ![8, 512, 4, 4, 3, 1]⟩
abbrev S1 : Shape := ⟨1, ![1]⟩
abbrev S1x1x1x1x1x1 : Shape := ⟨6, ![1, 1, 1, 1, 1, 1]⟩
abbrev S8x512x1x37 : Shape := ⟨4, ![8, 512, 1, 37]⟩
abbrev S8x512x4x37 : Shape := ⟨4, ![8, 512, 4, 37]⟩
abbrev S1x1x1x1x1 : Shape := ⟨5, ![1, 1, 1, 1, 1]⟩
abbrev S8x512x4x1 : Shape := ⟨4, ![8, 512, 4, 1]⟩
abbrev S8x512x4 : Shape := ⟨3, ![8, 512, 4]⟩
abbrev S8x512x4x1x3 : Shape := ⟨5, ![8, 512, 4, 1, 3]⟩
abbrev S8x512x4x3 : Shape := ⟨4, ![8, 512, 4, 3]⟩
abbrev S8x512x4x2 : Shape := ⟨4, ![8, 512, 4, 2]⟩

abbrev nBuf : Space → Nat
  | .hbm => 261
  | .vmem => 0
  | .smem => 0
  | _ => 0

abbrev hbmTy0_0 (i : Nat) : BufTy := match i % 128 with
  | 0 => ⟨S8x512, .i32⟩
  | 1 => ⟨S8x512x7x2, .f32⟩
  | 2 => ⟨S8x512x37x3, .f32⟩
  | 3 => ⟨S8x512x37, .i1⟩
  | 4 => ⟨S21x4x4, .i32⟩
  | 5 => ⟨S21x4, .i1⟩
  | 6 => ⟨S21x4, .i1⟩
  | 7 => ⟨S_, .i32⟩
  | 8 => ⟨S8x512, .i32⟩
  | 9 => ⟨S8x512, .i1⟩
  | 10 => ⟨S_, .i32⟩
  | 11 => ⟨S8x512, .i32⟩
  | 12 => ⟨S8x512, .i32⟩
  | 13 => ⟨S8x512, .i32⟩
  | 14 => ⟨S8x512x1, .i32⟩
  | 15 => ⟨S8x512x4x4, .i32⟩
  | 16 => ⟨S8x512x1x37x3, .f32⟩
  | 17 => ⟨S8x512x4x37x3, .f32⟩
  | 18 => ⟨S8x512x4x4x1, .i32⟩
  | 19 => ⟨S8x512x4x4x3, .i32⟩
  | 20 => ⟨S_, .i32⟩
  | 21 => ⟨S8x512x4x4x3, .i32⟩
  | 22 => ⟨S8x512x4x4x3, .i1⟩
  | 23 => ⟨S_, .i32⟩
  | 24 => ⟨S8x512x4x4x3, .i32⟩
  | 25 => ⟨S8x512x4x4x3, .i32⟩
  | 26 => ⟨S8x512x4x4x3, .i32⟩
  | 27 => ⟨S8x512x4x4x3x1, .i32⟩
  | 28 => ⟨S1, .i32⟩
  | 29 => ⟨S_, .i32⟩
  | 30 => ⟨S8x512x4x4x3x1, .i32⟩
  | 31 => ⟨S8x512x4x4x3x1, .i1⟩
  | 32 => ⟨S1x1x1x1x1x1, .i32⟩
  | 33 => ⟨S8x512x4x4x3x1, .i32⟩
  | 34 => ⟨S8x512x4x4x3x1, .i1⟩
  | 35 => ⟨S8x512x4x4x3x1, .i1⟩
  | 36 => ⟨S_, .i1⟩
  | 37 => ⟨S8x512x4x4x3, .i1⟩
  | 38 => ⟨S8x512x4x4x3, .f32⟩
  | 39 => ⟨S_, .f32⟩
  | 40 => ⟨S8x512x4x4x3, .f32⟩
  | 41 => ⟨S8x512x4x4x3, .f32⟩
  | 42 => ⟨S8x512x37, .f32⟩
  | 43 => ⟨S8x512x1x37, .f32⟩
  | 44 => ⟨S8x512x4x37, .f32⟩
  | 45 => ⟨S_, .i32⟩
  | 46 => ⟨S8x512x4x4, .i32⟩
  | 47 => ⟨S8x512x4x4, .i1⟩
  | 48 => ⟨S_, .i32⟩
  | 49 => ⟨S8x512x4x4, .i32⟩
  | 50 => ⟨S8x512x4x4, .i32⟩
  | 51 => ⟨S8x512x4x4, .i32⟩
  | 52 => ⟨S8x512x4x4x1, .i32⟩
  | 53 => ⟨S1, .i32⟩
  | 54 => ⟨S_, .i32⟩
  | 55 => ⟨S8x512x4x4x1, .i32⟩
  | 56 => ⟨S8x512x4x4x1, .i1⟩
  | 57 => ⟨S1x1x1x1x1, .i32⟩
  | 58 => ⟨S8x512x4x4x1, .i32⟩
  | 59 => ⟨S8x512x4x4x1, .i1⟩
  | 60 => ⟨S8x512x4x4x1, .i1⟩
  | 61 => ⟨S_, .i1⟩
  | 62 => ⟨S8x512x4x4, .i1⟩
  | 63 => ⟨S8x512x4x4, .f32⟩
  | 64 => ⟨S_, .f32⟩
  | 65 => ⟨S8x512x4x4, .f32⟩
  | 66 => ⟨S8x512x4x4, .f32⟩
  | 67 => ⟨S8x512x4x1, .f32⟩
  | 68 => ⟨S8x512x4, .f32⟩
  | 69 => ⟨S8x512x4x1, .f32⟩
  | 70 => ⟨S8x512x4, .f32⟩
  | 71 => ⟨S8x512x4, .f32⟩
  | 72 => ⟨S8x512x4x1, .f32⟩
  | 73 => ⟨S8x512x4, .f32⟩
  | 74 => ⟨S8x512x4, .f32⟩
  | 75 => ⟨S8x512x4x1, .f32⟩
  | 76 => ⟨S8x512x4, .f32⟩
  | 77 => ⟨S8x512x4, .f32⟩
  | 78 => ⟨S8x512x4x1x3, .f32⟩
  | 79 => ⟨S8x512x4x3, .f32⟩
  | 80 => ⟨S8x512x4x1x3, .f32⟩
  | 81 => ⟨S8x512x4x3, .f32⟩
  | 82 => ⟨S8x512x4x1x3, .f32⟩
  | 83 => ⟨S8x512x4x3, .f32⟩
  | 84 => ⟨S8x512x4x1x3, .f32⟩
  | 85 => ⟨S8x512x4x3, .f32⟩
  | 86 => ⟨S8x512x4x3, .f32⟩
  | 87 => ⟨S8x512x4x3, .f32⟩
  | 88 => ⟨S_, .f32⟩
  | 89 => ⟨S8x512x4, .f32⟩
  | 90 => ⟨S8x512x4x1, .f32⟩
  | 91 => ⟨S_, .f32⟩
  | 92 => ⟨S8x512x4x1, .f32⟩
  | 93 => ⟨S8x512x4x1, .f32⟩
  | 94 => ⟨S8x512x4x1, .f32⟩
  | 95 => ⟨S8x512x4x3, .f32⟩
  | 96 => ⟨S8x512x4x3, .f32⟩
  | 97 => ⟨S8x512x4x3, .f32⟩
  | 98 => ⟨S8x512x4x3, .f32⟩
  | 99 => ⟨S_, .f32⟩
  | 100 => ⟨S8x512x4, .f32⟩
  | 101 => ⟨S8x512x4x1, .f32⟩
  | 102 => ⟨S8x512x4x3, .f32⟩
  | 103 => ⟨S8x512x4x3, .f32⟩
  | 104 => ⟨S8x512x4x3, .f32⟩
  | 105 => ⟨S8x512x4x3, .f32⟩
  | 106 => ⟨S_, .f32⟩
  | 107 => ⟨S8x512x4, .f32⟩
  | 108 => ⟨S8x512x4x1, .f32⟩
  | 109 => ⟨S_, .f32⟩
  | 110 => ⟨S8x512x4x1, .f32⟩
  | 111 => ⟨S8x512x4x1, .f32⟩
  | 112 => ⟨S8x512x4x1, .f32⟩
  | 113 => ⟨S8x512x4x3, .f32⟩
  | 114 => ⟨S8x512x4x3, .f32⟩
  | 115 => ⟨S8x512x4x1, .f32⟩
  | 116 => ⟨S8x512x4, .f32⟩
  | 117 => ⟨S8x512x4x1, .f32⟩
  | 118 => ⟨S8x512x4, .f32⟩
  | 119 => ⟨S8x512x4, .f32⟩
  | 120 => ⟨S8x512x4x1, .f32⟩
  | 121 => ⟨S8x512x4, .f32⟩
  | 122 => ⟨S8x512x4x1, .f32⟩
  | 123 => ⟨S8x512x4, .f32⟩
  | 124 => ⟨S8x512x4, .f32⟩
  | 125 => ⟨S8x512x4, .f32⟩
  | 126 => ⟨S8x512x4x1, .f32⟩
  | 127 => ⟨S8x512x4, .f32⟩
  | _ => ⟨S8x512, .i32⟩

abbrev hbmTy0_1 (i : Nat) : BufTy := match i % 128 with
  | 0 => ⟨S8x512x4x1, .f32⟩
  | 1 => ⟨S8x512x4, .f32⟩
  | 2 => ⟨S8x512x4, .f32⟩
  | 3 => ⟨S8x512x4x1, .f32⟩
  | 4 => ⟨S8x512x4, .f32⟩
  | 5 => ⟨S8x512x4x1, .f32⟩
  | 6 => ⟨S8x512x4, .f32⟩
  | 7 => ⟨S8x512x4, .f32⟩
  | 8 => ⟨S8x512x4, .f32⟩
  | 9 => ⟨S8x512x4x1, .f32⟩
  | 10 => ⟨S8x512x4, .f32⟩
  | 11 => ⟨S8x512x4x1, .f32⟩
  | 12 => ⟨S8x512x4, .f32⟩
  | 13 => ⟨S8x512x4, .f32⟩
  | 14 => ⟨S8x512x4x1, .f32⟩
  | 15 => ⟨S8x512x4, .f32⟩
  | 16 => ⟨S8x512x4x1, .f32⟩
  | 17 => ⟨S8x512x4, .f32⟩
  | 18 => ⟨S8x512x4, .f32⟩
  | 19 => ⟨S8x512x4, .f32⟩
  | 20 => ⟨S8x512x4x1, .f32⟩
  | 21 => ⟨S8x512x4x1, .f32⟩
  | 22 => ⟨S8x512x4x1, .f32⟩
  | 23 => ⟨S8x512x4x3, .f32⟩
  | 24 => ⟨S8x512x4x3, .f32⟩
  | 25 => ⟨S8x512x4x3, .f32⟩
  | 26 => ⟨S_, .f32⟩
  | 27 => ⟨S8x512x4, .f32⟩
  | 28 => ⟨S8x512x4x3, .f32⟩
  | 29 => ⟨S_, .f32⟩
  | 30 => ⟨S8x512x4, .f32⟩
  | 31 => ⟨S8x512x4x1, .f32⟩
  | 32 => ⟨S8x512x4x1, .f32⟩
  | 33 => ⟨S8x512x4x2, .f32⟩
  | 34 => ⟨S8x512x4x2, .f32⟩
  | 35 => ⟨S_, .f32⟩
  | 36 => ⟨S8x512x4, .f32⟩
  | 37 => ⟨S8x512x4x1, .f32⟩
  | 38 => ⟨S_, .f32⟩
  | 39 => ⟨S8x512x4x1, .f32⟩
  | 40 => ⟨S8x512x4x1, .f32⟩
  | 41 => ⟨S8x512x4x1, .f32⟩
  | 42 => ⟨S8x512x4x2, .f32⟩
  | 43 => ⟨S8x512x4x2, .f32⟩
  | 44 => ⟨S_, .i32⟩
  | 45 => ⟨S8x512, .i32⟩
  | 46 => ⟨S8x512, .i1⟩
  | 47 => ⟨S_, .i32⟩
  | 48 => ⟨S8x512, .i32⟩
  | 49 => ⟨S8x512, .i32⟩
  | 50 => ⟨S8x512, .i32⟩
  | 51 => ⟨S8x512x1, .i32⟩
  | 52 => ⟨S8x512x4, .i1⟩
  | 53 => ⟨S8x512x4, .f32⟩
  | 54 => ⟨S8x512x4, .f32⟩
  | 55 => ⟨S_, .i32⟩
  | 56 => ⟨S8x512, .i32⟩
  | 57 => ⟨S8x512, .i1⟩
  | 58 => ⟨S_, .i32⟩
  | 59 => ⟨S8x512, .i32⟩
  | 60 => ⟨S8x512, .i32⟩
  | 61 => ⟨S8x512, .i32⟩
  | 62 => ⟨S8x512x1, .i32⟩
  | 63 => ⟨S8x512x4, .i1⟩
  | 64 => ⟨S8x512x4x1, .i1⟩
  | 65 => ⟨S8x512x4x2, .f32⟩
  | 66 => ⟨S8x512x4x2, .i1⟩
  | 67 => ⟨S8x512x4x2, .f32⟩
  | 68 => ⟨S8x512x4x2, .i1⟩
  | 69 => ⟨S_, .i1⟩
  | 70 => ⟨S8x512x4, .i1⟩
  | 71 => ⟨S8x512x4, .i1⟩
  | 72 => ⟨S_, .i32⟩
  | 73 => ⟨S8x512, .i32⟩
  | 74 => ⟨S8x512, .i1⟩
  | 75 => ⟨S_, .i32⟩
  | 76 => ⟨S8x512, .i32⟩
  | 77 => ⟨S8x512, .i32⟩
  | 78 => ⟨S8x512, .i32⟩
  | 79 => ⟨S8x512x1, .i32⟩
  | 80 => ⟨S8x512x4, .i1⟩
  | 81 => ⟨S_, .f32⟩
  | 82 => ⟨S8x512x4, .f32⟩
  | 83 => ⟨S8x512x4, .i1⟩
  | 84 => ⟨S8x512x4, .i1⟩
  | 85 => ⟨S8x512x4, .i1⟩
  | 86 => ⟨S8x512x4x2, .f32⟩
  | 87 => ⟨S8x512x4x2, .f32⟩
  | 88 => ⟨S_, .f32⟩
  | 89 => ⟨S8x512x4, .f32⟩
  | 90 => ⟨S_, .f32⟩
  | 91 => ⟨S8x512x4, .f32⟩
  | 92 => ⟨S8x512x4, .f32⟩
  | 93 => ⟨S8x512x4, .f32⟩
  | 94 => ⟨S8x512x4x1, .f32⟩
  | 95 => ⟨S8x512x4x2, .f32⟩
  | 96 => ⟨S8x512x4x2, .f32⟩
  | 97 => ⟨S8x512x4, .f32⟩
  | 98 => ⟨S8x512x4x2, .f32⟩
  | 99 => ⟨S8x512x4x2, .f32⟩
  | 100 => ⟨S_, .f32⟩
  | 101 => ⟨S8x512x4, .f32⟩
  | 102 => ⟨S_, .f32⟩
  | 103 => ⟨S8x512x4, .f32⟩
  | 104 => ⟨S8x512x4, .f32⟩
  | 105 => ⟨S8x512x4, .f32⟩
  | 106 => ⟨S8x512x4x2, .f32⟩
  | 107 => ⟨S8x512x4x2, .f32⟩
  | 108 => ⟨S_, .f32⟩
  | 109 => ⟨S8x512x4, .f32⟩
  | 110 => ⟨S_, .f32⟩
  | 111 => ⟨S8x512x4, .f32⟩
  | 112 => ⟨S8x512x4, .f32⟩
  | 113 => ⟨S8x512x4, .f32⟩
  | 114 => ⟨S8x512x4, .f32⟩
  | 115 => ⟨S8x512x4, .f32⟩
  | 116 => ⟨S8x512x4, .f32⟩
  | 117 => ⟨S8x512x4, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S8x512x4, .f32⟩
  | 127 => ⟨S8x512x4, .f32⟩
  | _ => ⟨S8x512, .i32⟩

abbrev hbmTy0_2 (i : Nat) : BufTy := match i % 128 with
  | 0 => ⟨S8x512x4, .f32⟩
  | 1 => ⟨S_, .f32⟩
  | 2 => ⟨S_, .f32⟩
  | 3 => ⟨S_, .f32⟩
  | 4 => ⟨S_, .f32⟩
  | _ => ⟨S8x512, .i32⟩

abbrev hbmTy (i : Nat) : BufTy := match i / 128 with
  | 0 => hbmTy0_0 i
  | 1 => hbmTy0_1 i
  | 2 => hbmTy0_2 i
  | _ => ⟨S8x512, .i32⟩

abbrev bufTy : (tb : Table) → Fin (tcTables nBuf tb) → BufTy
  | .hbm, ⟨i, _⟩ => hbmTy i
  | _, _ => ⟨S8x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_v0 : Ref sig .tc := ⟨.hbm, 8, rfl⟩
abbrev main_v1 : Ref sig .tc := ⟨.hbm, 9, rfl⟩
abbrev main_c_3 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_cst : Ref sig .tc := ⟨.hbm, 39, rfl⟩
abbrev main_call0_v14 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_call1_c : Ref sig .tc := ⟨.hbm, 45, rfl⟩
abbrev main_call1_v0 : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_c_1 : Ref sig .tc := ⟨.hbm, 53, rfl⟩
abbrev main_call1_c_2 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_c_3 : Ref sig .tc := ⟨.hbm, 61, rfl⟩
abbrev main_call1_v12 : Ref sig .tc := ⟨.hbm, 62, rfl⟩
abbrev main_call1_v13 : Ref sig .tc := ⟨.hbm, 63, rfl⟩
abbrev main_call1_cst : Ref sig .tc := ⟨.hbm, 64, rfl⟩
abbrev main_call1_v14 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_cst : Ref sig .tc := ⟨.hbm, 88, rfl⟩
abbrev main_v37 : Ref sig .tc := ⟨.hbm, 89, rfl⟩
abbrev main_v38 : Ref sig .tc := ⟨.hbm, 90, rfl⟩
abbrev main_cst_4 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_cst_5 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_cst_6 : Ref sig .tc := ⟨.hbm, 106, rfl⟩
abbrev main_v52 : Ref sig .tc := ⟨.hbm, 107, rfl⟩
abbrev main_v53 : Ref sig .tc := ⟨.hbm, 108, rfl⟩
abbrev main_cst_7 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_cst_8 : Ref sig .tc := ⟨.hbm, 154, rfl⟩
abbrev main_v98 : Ref sig .tc := ⟨.hbm, 155, rfl⟩
abbrev main_v99 : Ref sig .tc := ⟨.hbm, 156, rfl⟩
abbrev main_cst_9 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_cst_10 : Ref sig .tc := ⟨.hbm, 163, rfl⟩
abbrev main_v105 : Ref sig .tc := ⟨.hbm, 164, rfl⟩
abbrev main_v106 : Ref sig .tc := ⟨.hbm, 165, rfl⟩
abbrev main_cst_11 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_c_12 : Ref sig .tc := ⟨.hbm, 172, rfl⟩
abbrev main_v112 : Ref sig .tc := ⟨.hbm, 173, rfl⟩
abbrev main_v113 : Ref sig .tc := ⟨.hbm, 174, rfl⟩
abbrev main_c_13 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_c_14 : Ref sig .tc := ⟨.hbm, 183, rfl⟩
abbrev main_v121 : Ref sig .tc := ⟨.hbm, 184, rfl⟩
abbrev main_v122 : Ref sig .tc := ⟨.hbm, 185, rfl⟩
abbrev main_c_15 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_v127 : Ref sig .tc := ⟨.hbm, 191, rfl⟩
abbrev main_v128 : Ref sig .tc := ⟨.hbm, 192, rfl⟩
abbrev main_v129 : Ref sig .tc := ⟨.hbm, 193, rfl⟩
abbrev main_call2_v0 : Ref sig .tc := ⟨.hbm, 194, rfl⟩
abbrev main_v130 : Ref sig .tc := ⟨.hbm, 195, rfl⟩
abbrev main_v131 : Ref sig .tc := ⟨.hbm, 196, rfl⟩
abbrev main_c_16 : Ref sig .tc := ⟨.hbm, 197, rfl⟩
abbrev main_v132 : Ref sig .tc := ⟨.hbm, 198, rfl⟩
abbrev main_v133 : Ref sig .tc := ⟨.hbm, 199, rfl⟩
abbrev main_c_17 : Ref sig .tc := ⟨.hbm, 200, rfl⟩
abbrev main_v134 : Ref sig .tc := ⟨.hbm, 201, rfl⟩
abbrev main_v135 : Ref sig .tc := ⟨.hbm, 202, rfl⟩
abbrev main_c_18 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩
abbrev main_v139 : Ref sig .tc := ⟨.hbm, 207, rfl⟩
abbrev main_v140 : Ref sig .tc := ⟨.hbm, 208, rfl⟩
abbrev main_cst_19 : Ref sig .tc := ⟨.hbm, 209, rfl⟩
abbrev main_v141 : Ref sig .tc := ⟨.hbm, 210, rfl⟩
abbrev main_v142 : Ref sig .tc := ⟨.hbm, 211, rfl⟩
abbrev main_v143 : Ref sig .tc := ⟨.hbm, 212, rfl⟩
abbrev main_v144 : Ref sig .tc := ⟨.hbm, 213, rfl⟩
abbrev main_v145 : Ref sig .tc := ⟨.hbm, 214, rfl⟩
abbrev main_v146 : Ref sig .tc := ⟨.hbm, 215, rfl⟩
abbrev main_cst_20 : Ref sig .tc := ⟨.hbm, 216, rfl⟩
abbrev main_v147 : Ref sig .tc := ⟨.hbm, 217, rfl⟩
abbrev main_cst_21 : Ref sig .tc := ⟨.hbm, 218, rfl⟩
abbrev main_v148 : Ref sig .tc := ⟨.hbm, 219, rfl⟩
abbrev main_v149 : Ref sig .tc := ⟨.hbm, 220, rfl⟩
abbrev main_v150 : Ref sig .tc := ⟨.hbm, 221, rfl⟩
abbrev main_v151 : Ref sig .tc := ⟨.hbm, 222, rfl⟩
abbrev main_v152 : Ref sig .tc := ⟨.hbm, 223, rfl⟩
abbrev main_v153 : Ref sig .tc := ⟨.hbm, 224, rfl⟩
abbrev main_v154 : Ref sig .tc := ⟨.hbm, 225, rfl⟩
abbrev main_v155 : Ref sig .tc := ⟨.hbm, 226, rfl⟩
abbrev main_v156 : Ref sig .tc := ⟨.hbm, 227, rfl⟩
abbrev main_cst_22 : Ref sig .tc := ⟨.hbm, 228, rfl⟩
abbrev main_v157 : Ref sig .tc := ⟨.hbm, 229, rfl⟩
abbrev main_cst_23 : Ref sig .tc := ⟨.hbm, 230, rfl⟩
abbrev main_v158 : Ref sig .tc := ⟨.hbm, 231, rfl⟩
abbrev main_v159 : Ref sig .tc := ⟨.hbm, 232, rfl⟩
abbrev main_v160 : Ref sig .tc := ⟨.hbm, 233, rfl⟩
abbrev main_v161 : Ref sig .tc := ⟨.hbm, 234, rfl⟩
abbrev main_v162 : Ref sig .tc := ⟨.hbm, 235, rfl⟩
abbrev main_cst_24 : Ref sig .tc := ⟨.hbm, 236, rfl⟩
abbrev main_v163 : Ref sig .tc := ⟨.hbm, 237, rfl⟩
abbrev main_cst_25 : Ref sig .tc := ⟨.hbm, 238, rfl⟩
abbrev main_v164 : Ref sig .tc := ⟨.hbm, 239, rfl⟩
abbrev main_v165 : Ref sig .tc := ⟨.hbm, 240, rfl⟩
abbrev main_v166 : Ref sig .tc := ⟨.hbm, 241, rfl⟩
abbrev main_v167 : Ref sig .tc := ⟨.hbm, 242, rfl⟩
abbrev main_v168 : Ref sig .tc := ⟨.hbm, 243, rfl⟩
abbrev main_v169 : Ref sig .tc := ⟨.hbm, 244, rfl⟩
abbrev main_v170 : Ref sig .tc := ⟨.hbm, 245, rfl⟩
abbrev main_cst_26 : Ref sig .tc := ⟨.hbm, 246, rfl⟩
abbrev main_v171 : Ref sig .tc := ⟨.hbm, 247, rfl⟩
abbrev main_cst_27 : Ref sig .tc := ⟨.hbm, 248, rfl⟩
abbrev main_v172 : Ref sig .tc := ⟨.hbm, 249, rfl⟩
abbrev main_cst_28 : Ref sig .tc := ⟨.hbm, 250, rfl⟩
abbrev main_v173 : Ref sig .tc := ⟨.hbm, 251, rfl⟩
abbrev main_v174 : Ref sig .tc := ⟨.hbm, 252, rfl⟩
abbrev main_cst_29 : Ref sig .tc := ⟨.hbm, 253, rfl⟩
abbrev main_v175 : Ref sig .tc := ⟨.hbm, 254, rfl⟩
abbrev main_v176 : Ref sig .tc := ⟨.hbm, 255, rfl⟩
abbrev main_v177 : Ref sig .tc := ⟨.hbm, 256, rfl⟩
abbrev main_cst_30 : Ref sig .tc := ⟨.hbm, 257, rfl⟩
abbrev main_v178 : Ref sig .tc := ⟨.hbm, 258, rfl⟩
abbrev main_cst_31 : Ref sig .tc := ⟨.hbm, 259, rfl⟩
abbrev main_v179 : Ref sig .tc := ⟨.hbm, 260, rfl⟩

abbrev nD : Nat := 1
abbrev τ : Topo := Topo.v7x

variable {F : FTy → Type} [FloatOps F]
-- ==== Proof.Vals.lean ====
/-
  The arithmetic of the kernel at one lane, over any float values: what one residue and one of its four torsion angles
  add to the three running sums, and that the loop's payloads are these functions lane by lane.
-/
module

public import proofs.«01_k».proof.Proof.Gen.KernelIdeal.Skeleton

@[expose] public section

noncomputable section

namespace Cert.Proof.Vals

open Cert.KernelIdeal Cert.KernelIdeal.Gen
open Idealize.ShloMosaic

variable {F : FTy → Type} [FloatOps F]

/-! ## One angle, from its four atoms -/

/-- The constant that the norms are kept away from zero by. -/
abbrev eps : F .f32 := Scalar.ofBits .f32 0x322BCC77#32
abbrev one : F .f32 := Scalar.ofBits .f32 0x3F800000#32
abbrev zero : F .f32 := Scalar.ofBits .f32 0x00000000#32

/-- The inverse length of a vector of three components, with `eps` added to its square. -/
def rlen3 (u : Fin 3 → F .f32) : F .f32 :=
  FloatOps.rsqrt (FloatOps.addf (FloatOps.addf (FloatOps.addf (FloatOps.mulf (u 0) (u 0)) (FloatOps.mulf (u 1) (u 1))) (FloatOps.mulf (u 2) (u 2))) eps)
def dot3 (u v : Fin 3 → F .f32) : F .f32 :=
  FloatOps.addf (FloatOps.addf (FloatOps.mulf (u 0) (v 0)) (FloatOps.mulf (u 1) (v 1))) (FloatOps.mulf (u 2) (v 2))

variable (p : Fin 4 → Fin 3 → F .f32)

/-- The first axis: from the second atom to the third. -/
def d0 (c : Fin 3) : F .f32 := FloatOps.subf (p 2 c) (p 1 c)
def e0 (c : Fin 3) : F .f32 := FloatOps.mulf (d0 p c) (rlen3 (d0 p))
/-- From the third atom to the first, and its part across the first axis. -/
def dv (c : Fin 3) : F .f32 := FloatOps.subf (p 0 c) (p 2 c)
def d1 (c : Fin 3) : F .f32 := FloatOps.subf (dv p c) (FloatOps.mulf (dot3 (dv p) (e0 p)) (e0 p c))
def e1 (c : Fin 3) : F .f32 := FloatOps.mulf (d1 p c) (rlen3 (d1 p))
/-- The third axis: the product of the first two. -/
def e2 (c : Fin 3) : F .f32 :=
  FloatOps.subf (FloatOps.mulf (e0 p (c + 1)) (e1 p (c + 2))) (FloatOps.mulf (e0 p (c + 2)) (e1 p (c + 1)))
/-- From the third atom to the fourth, along the second and third axes. -/
def d3 (c : Fin 3) : F .f32 := FloatOps.subf (p 3 c) (p 2 c)
def yy : F .f32 := dot3 (d3 p) (e1 p)
def zz : F .f32 := dot3 (d3 p) (e2 p)
def rs : F .f32 := FloatOps.rsqrt (FloatOps.addf (FloatOps.addf (FloatOps.mulf (zz p) (zz p)) (FloatOps.mulf (yy p) (yy p))) eps)
/-- The true angle's sine and cosine. -/
def gx : F .f32 := FloatOps.mulf (zz p) (rs p)
def gy : F .f32 := FloatOps.mulf (yy p) (rs p)

/-! ## The predicted angle and what the pair adds to the sums -/

/-- The square of the predicted pair's length. -/
def na (ax ay : F .f32) : F .f32 := FloatOps.addf (FloatOps.addf eps (FloatOps.mulf ax ax)) (FloatOps.mulf ay ay)
def rn (ax ay : F .f32) : F .f32 := FloatOps.rsqrt (na ax ay)
def lenTerm (ax ay : F .f32) : F .f32 :=
  FloatOps.mulf (FloatOps.subf (FloatOps.mulf (na ax ay) (rn ax ay)) one) (FloatOps.subf (FloatOps.mulf (na ax ay) (rn ax ay)) one)

/-- The squared distance of two pairs, with `eps` added. -/
def dist2 (dx dy : F .f32) : F .f32 := FloatOps.addf (FloatOps.addf eps (FloatOps.mulf dx dx)) (FloatOps.mulf dy dy)
def dg2 (ax ay : F .f32) : F .f32 :=
  dist2 (FloatOps.subf (FloatOps.mulf ax (rn ax ay)) (gx p)) (FloatOps.subf (FloatOps.mulf ay (rn ax ay)) (gy p))
def da2 (ax ay : F .f32) : F .f32 :=
  dist2 (FloatOps.addf (FloatOps.mulf ax (rn ax ay)) (gx p)) (FloatOps.addf (FloatOps.mulf ay (rn ax ay)) (gy p))
/-- The distance to the nearer of the true angle and, where the residue type allows the flip, its opposite. -/
def md (flip : BitVec 1) (ax ay : F .f32) : F .f32 :=
  Scalar.select flip (FloatOps.minimumf (dg2 p ax ay) (da2 p ax ay)) (dg2 p ax ay)

/-- The number of torsion angles of a residue type: three bits of one of two words. `w` is the lane's number, which the
    kernel multiplies by zero to spread a constant over the lanes. -/
def nch (w sq : BitVec 32) : BitVec 32 :=
  IntOp.andi (IntOp.shrui .vector (Scalar.select (IntOp.cmpi .slt sq 10#32) (IntOp.addi 302879904#32 (IntOp.muli w 0#32)) (IntOp.addi 172270818#32 (IntOp.muli w 0#32)))
    (Scalar.select (IntOp.cmpi .slt sq 10#32) (IntOp.muli sq 3#32) (IntOp.subi (IntOp.muli sq 3#32) 30#32))) 7#32
/-- The angle counts: the type has it, and it is a number. -/
def counted (nc j : BitVec 32) : BitVec 1 :=
  IntOp.andi (IntOp.cmpi .sgt nc j) (IntOp.andi (FloatOps.cmpf .oeq (gx p) (gx p)) (FloatOps.cmpf .oeq (gy p) (gy p)))
def mf (nc j : BitVec 32) : F .f32 := Scalar.select (counted p nc j) (FloatOps.addf zero one) zero

def flip1 (sq : BitVec 32) : BitVec 1 :=
  IntOp.ori (IntOp.ori (IntOp.cmpi .eq sq 3#32) (IntOp.cmpi .eq sq 13#32)) (IntOp.cmpi .eq sq 18#32)
def flip2 (sq : BitVec 32) : BitVec 1 := IntOp.cmpi .eq sq 6#32

/-! ## One trip at one lane -/

section Step

variable (q : Fin 4 → Fin 4 → Fin 3 → F .f32) (a : Fin 4 → Fin 2 → F .f32) (w sq : BitVec 32) (x : F .f32)

/-- What one residue's four angles add to the sum of squared distances, to the count, and to the sum of length terms:
    `q` its atoms, `a` its predicted pairs, `sq` its type, `x` the sum so far. -/
def stepN : F .f32 :=
  FloatOps.addf (FloatOps.addf (FloatOps.addf (FloatOps.addf x
    (FloatOps.mulf (dg2 (q 0) (a 0 0) (a 0 1)) (mf (q 0) (nch w sq) 0#32)))
    (FloatOps.mulf (md (q 1) (flip1 sq) (a 1 0) (a 1 1)) (mf (q 1) (nch w sq) 1#32)))
    (FloatOps.mulf (md (q 2) (flip2 sq) (a 2 0) (a 2 1)) (mf (q 2) (nch w sq) 2#32)))
    (FloatOps.mulf (dg2 (q 3) (a 3 0) (a 3 1)) (mf (q 3) (nch w sq) 3#32))
def stepD : F .f32 :=
  FloatOps.addf (FloatOps.addf (FloatOps.addf (FloatOps.addf x (mf (q 0) (nch w sq) 0#32)) (mf (q 1) (nch w sq) 1#32))
    (mf (q 2) (nch w sq) 2#32)) (mf (q 3) (nch w sq) 3#32)
def stepA : F .f32 :=
  FloatOps.addf (FloatOps.addf (FloatOps.addf (FloatOps.addf x (lenTerm (a 0 0) (a 0 1))) (lenTerm (a 1 0) (a 1 1)))
    (lenTerm (a 2 0) (a 2 1))) (lenTerm (a 3 0) (a 3 1))

end Step

/-! ## The payloads, lane by lane -/

variable (X : Fin 4 → Fin 3 → FVec F S16 .f32)

/-- The four atoms of one lane. -/
abbrev at_ (l : S16.Idx) : Fin 4 → Fin 3 → F .f32 := fun k c => X k c l
abbrev sc (ld : Vec F S1x1x16 .f32) : FVec F S16 .f32 := shapeCast S16 ld shapeCasts_S1x1x16_S16

theorem gx_0 :
    (k0_pay47 (k0_pay38 (X 0 0) (X 0 1) (X 0 2) (X 1 0) (X 1 1) (X 1 2) (X 2 0) (X 2 1) (X 2 2)) (k0_pay41 (X 2 2) (X 3 2)) (k0_pay42 (X 0 0) (X 0 1) (X 0 2) (X 1 0) (X 1 1) (X 1 2) (X 2 0) (X 2 1) (X 2 2) (X 3 0) (X 3 1) (X 3 2)) (k0_pay43 (X 0 0) (X 0 1) (X 0 2) (X 1 0) (X 1 1) (X 1 2) (X 2 0) (X 2 1) (X 2 2) (X 3 0)) (k0_pay44 (X 0 0) (X 0 1) (X 0 2) (X 1 0) (X 1 1) (X 1 2) (X 2 0) (X 2 1) (X 2 2) (X 3 1))) = fun l => gx (at_ X l) := rfl

theorem gy_0 :
    (k0_pay48 (k0_pay38 (X 0 0) (X 0 1) (X 0 2) (X 1 0) (X 1 1) (X 1 2) (X 2 0) (X 2 1) (X 2 2)) (k0_pay41 (X 2 2) (X 3 2)) (k0_pay42 (X 0 0) (X 0 1) (X 0 2) (X 1 0) (X 1 1) (X 1 2) (X 2 0) (X 2 1) (X 2 2) (X 3 0) (X 3 1) (X 3 2)) (k0_pay43 (X 0 0) (X 0 1) (X 0 2) (X 1 0) (X 1 1) (X 1 2) (X 2 0) (X 2 1) (X 2 2) (X 3 0)) (k0_pay44 (X 0 0) (X 0 1) (X 0 2) (X 1 0) (X 1 1) (X 1 2) (X 2 0) (X 2 1) (X 2 2) (X 3 1))) = fun l => gy (at_ X l) := rfl

theorem gx_1 :
    (k0_pay101 (X 2 0) (X 2 1) (X 2 2) (X 3 0) (X 3 1) (X 3 2) (k0_pay79 (X 1 0) (X 1 1) (X 1 2) (X 2 0) (X 2 1) (X 2 2)) (k0_pay80 (X 1 0) (X 1 1) (X 1 2) (X 2 0) (X 2 1) (X 2 2)) (k0_pay81 (X 1 0) (X 1 1) (X 1 2) (X 2 0) (X 2 1) (X 2 2)) (k0_pay86 (X 0 0) (X 0 1) (X 0 2) (X 1 0) (X 1 1) (X 1 2) (X 2 0) (X 2 1) (X 2 2)) (k0_pay87 (X 0 0) (X 0 1) (X 0 2) (X 1 0) (X 1 1) (X 1 2) (X 2 0) (X 2 1) (X 2 2)) (k0_pay88 (X 0 0) (X 0 1) (X 0 2) (X 1 0) (X 1 1) (X 1 2) (X 2 0) (X 2 1) (X 2 2)) (k0_pay89 (X 0 0) (X 0 1) (X 0 2) (X 1 0) (X 1 1) (X 1 2) (X 2 0) (X 2 1) (X 2 2)) (k0_pay90 (X 0 0) (X 0 1) (X 0 2) (X 1 0) (X 1 1) (X 1 2) (X 2 0) (X 2 1) (X 2 2))) = fun l => gx (at_ X l) := rfl

theorem gy_1 :
    (k0_pay102 (X 2 0) (X 2 1) (X 2 2) (X 3 0) (X 3 1) (X 3 2) (k0_pay79 (X 1 0) (X 1 1) (X 1 2) (X 2 0) (X 2 1) (X 2 2)) (k0_pay80 (X 1 0) (X 1 1) (X 1 2) (X 2 0) (X 2 1) (X 2 2)) (k0_pay81 (X 1 0) (X 1 1) (X 1 2) (X 2 0) (X 2 1) (X 2 2)) (k0_pay86 (X 0 0) (X 0 1) (X 0 2) (X 1 0) (X 1 1) (X 1 2) (X 2 0) (X 2 1) (X 2 2)) (k0_pay87 (X 0 0) (X 0 1) (X 0 2) (X 1 0) (X 1 1) (X 1 2) (X 2 0) (X 2 1) (X 2 2)) (k0_pay88 (X 0 0) (X 0 1) (X 0 2) (X 1 0) (X 1 1) (X 1 2) (X 2 0) (X 2 1) (X 2 2)) (k0_pay89 (X 0 0) (X 0 1) (X 0 2) (X 1 0) (X 1 1) (X 1 2) (X 2 0) (X 2 1) (X 2 2)) (k0_pay90 (X 0 0) (X 0 1) (X 0 2) (X 1 0) (X 1 1) (X 1 2) (X 2 0) (X 2 1) (X 2 2))) = fun l => gy (at_ X l) := rfl

theorem gx_2 :
    (k0_pay153 (X 2 0) (X 2 1) (X 2 2) (X 3 0) (X 3 1) (X 3 2) (k0_pay131 (X 1 0) (X 1 1) (X 1 2) (X 2 0) (X 2 1) (X 2 2)) (k0_pay132 (X 1 0) (X 1 1) (X 1 2) (X 2 0) (X 2 1) (X 2 2)) (k0_pay142 (X 0 0) (X 0 1) (X 0 2) (X 1 0) (X 1 1) (X 1 2) (X 2 0) (X 2 1) (X 2 2)) (k0_pay143 (X 0 0) (X 0 1) (X 0 2) (X 1 0) (X 1 1) (X 1 2) (X 2 0) (X 2 1) (X 2 2)) (k0_pay144 (X 0 0) (X 0 1) (X 0 2) (X 1 0) (X 1 1) (X 1 2) (X 2 0) (X 2 1) (X 2 2)) (k0_pay145 (X 0 0) (X 0 1) (X 0 2) (X 1 0) (X 1 1) (X 1 2) (X 2 0) (X 2 1) (X 2 2)) (k0_pay146 (X 0 0) (X 0 1) (X 0 2) (X 1 0) (X 1 1) (X 1 2) (X 2 0) (X 2 1) (X 2 2))) = fun l => gx (at_ X l) := rfl

theorem gy_2 :
    (k0_pay154 (X 2 0) (X 2 1) (X 2 2) (X 3 0) (X 3 1) (X 3 2) (k0_pay131 (X 1 0) (X 1 1) (X 1 2) (X 2 0) (X 2 1) (X 2 2)) (k0_pay132 (X 1 0) (X 1 1) (X 1 2) (X 2 0) (X 2 1) (X 2 2)) (k0_pay142 (X 0 0) (X 0 1) (X 0 2) (X 1 0) (X 1 1) (X 1 2) (X 2 0) (X 2 1) (X 2 2)) (k0_pay143 (X 0 0) (X 0 1) (X 0 2) (X 1 0) (X 1 1) (X 1 2) (X 2 0) (X 2 1) (X 2 2)) (k0_pay144 (X 0 0) (X 0 1) (X 0 2) (X 1 0) (X 1 1) (X 1 2) (X 2 0) (X 2 1) (X 2 2)) (k0_pay145 (X 0 0) (X 0 1) (X 0 2) (X 1 0) (X 1 1) (X 1 2) (X 2 0) (X 2 1) (X 2 2)) (k0_pay146 (X 0 0) (X 0 1) (X 0 2) (X 1 0) (X 1 1) (X 1 2) (X 2 0) (X 2 1) (X 2 2))) = fun l => gy (at_ X l) := rfl

theorem gx_3 :
    (k0_pay209 (k0_pay205 (X 0 0) (X 0 1) (X 0 2) (X 2 0) (X 2 1) (X 2 2) (X 3 0) (X 3 1) (X 3 2) (k0_pay181 (X 1 0) (X 2 0)) (k0_pay182 (X 1 1) (X 2 1)) (k0_pay183 (X 1 2) (X 2 2)) (k0_pay184 (X 1 0) (X 2 0)) (k0_pay185 (X 1 1) (X 2 1))) (k0_pay206 (X 0 0) (X 0 1) (X 0 2) (X 2 0) (X 2 1) (X 2 2) (X 3 0) (X 3 1) (X 3 2) (k0_pay181 (X 1 0) (X 2 0)) (k0_pay182 (X 1 1) (X 2 1)) (k0_pay183 (X 1 2) (X 2 2)) (k0_pay184 (X 1 0) (X 2 0)) (k0_pay185 (X 1 1) (X 2 1))) (k0_pay207 (X 0 0) (X 0 1) (X 0 2) (X 2 0) (X 2 1) (X 2 2) (X 3 0) (X 3 1) (X 3 2) (k0_pay181 (X 1 0) (X 2 0)) (k0_pay182 (X 1 1) (X 2 1)) (k0_pay183 (X 1 2) (X 2 2)) (k0_pay184 (X 1 0) (X 2 0)) (k0_pay185 (X 1 1) (X 2 1)))) = fun l => gx (at_ X l) := rfl

theorem gy_3 :
    (k0_pay210 (k0_pay204 (X 0 0) (X 0 1) (X 0 2) (X 2 0) (X 2 1) (X 2 2) (X 3 0) (X 3 1) (X 3 2) (k0_pay181 (X 1 0) (X 2 0)) (k0_pay182 (X 1 1) (X 2 1)) (k0_pay183 (X 1 2) (X 2 2)) (k0_pay184 (X 1 0) (X 2 0)) (k0_pay185 (X 1 1) (X 2 1))) (k0_pay206 (X 0 0) (X 0 1) (X 0 2) (X 2 0) (X 2 1) (X 2 2) (X 3 0) (X 3 1) (X 3 2) (k0_pay181 (X 1 0) (X 2 0)) (k0_pay182 (X 1 1) (X 2 1)) (k0_pay183 (X 1 2) (X 2 2)) (k0_pay184 (X 1 0) (X 2 0)) (k0_pay185 (X 1 1) (X 2 1))) (k0_pay207 (X 0 0) (X 0 1) (X 0 2) (X 2 0) (X 2 1) (X 2 2) (X 3 0) (X 3 1) (X 3 2) (k0_pay181 (X 1 0) (X 2 0)) (k0_pay182 (X 1 1) (X 2 1)) (k0_pay183 (X 1 2) (X 2 2)) (k0_pay184 (X 1 0) (X 2 0)) (k0_pay185 (X 1 1) (X 2 1)))) = fun l => gy (at_ X l) := rfl

/-! ## What the payloads add to the sums, lane by lane -/

variable (x : FVec F S16 .f32) (w : IVec S16 32) (sq : Vec F S16 .i32) (ld ld' : Vec F S1x1x16 .f32)

theorem n_0 : k0_pay57 k0_pay218 x (k0_pay54 (k0_pay38 (X 0 0) (X 0 1) (X 0 2) (X 1 0) (X 1 1) (X 1 2) (X 2 0) (X 2 1) (X 2 2)) (k0_pay41 (X 2 2) (X 3 2)) (k0_pay42 (X 0 0) (X 0 1) (X 0 2) (X 1 0) (X 1 1) (X 1 2) (X 2 0) (X 2 1) (X 2 2) (X 3 0) (X 3 1) (X 3 2)) (k0_pay43 (X 0 0) (X 0 1) (X 0 2) (X 1 0) (X 1 1) (X 1 2) (X 2 0) (X 2 1) (X 2 2) (X 3 0)) (k0_pay44 (X 0 0) (X 0 1) (X 0 2) (X 1 0) (X 1 1) (X 1 2) (X 2 0) (X 2 1) (X 2 2) (X 3 1)) ld ld') (k0_pay55 (k0_pay3 w sq) (k0_pay38 (X 0 0) (X 0 1) (X 0 2) (X 1 0) (X 1 1) (X 1 2) (X 2 0) (X 2 1) (X 2 2)) (k0_pay41 (X 2 2) (X 3 2)) (k0_pay42 (X 0 0) (X 0 1) (X 0 2) (X 1 0) (X 1 1) (X 1 2) (X 2 0) (X 2 1) (X 2 2) (X 3 0) (X 3 1) (X 3 2)) (k0_pay43 (X 0 0) (X 0 1) (X 0 2) (X 1 0) (X 1 1) (X 1 2) (X 2 0) (X 2 1) (X 2 2) (X 3 0)) (k0_pay44 (X 0 0) (X 0 1) (X 0 2) (X 1 0) (X 1 1) (X 1 2) (X 2 0) (X 2 1) (X 2 2) (X 3 1))) = fun l => FloatOps.addf (x l) (FloatOps.mulf (dg2 (at_ X l) (sc ld l) (sc ld' l)) (mf (at_ X l) (nch (w l) (sq l)) 0#32)) := by
  have hx := gx_0 X; have hy := gy_0 X
  unfold k0_pay57 k0_pay54 k0_pay55 k0_pay56 k0_pay49 k0_pay52 k0_pay50 k0_pay51
  rw [hx, hy]; rfl

theorem c_0 : k0_pay58 k0_pay218 x (k0_pay55 (k0_pay3 w sq) (k0_pay38 (X 0 0) (X 0 1) (X 0 2) (X 1 0) (X 1 1) (X 1 2) (X 2 0) (X 2 1) (X 2 2)) (k0_pay41 (X 2 2) (X 3 2)) (k0_pay42 (X 0 0) (X 0 1) (X 0 2) (X 1 0) (X 1 1) (X 1 2) (X 2 0) (X 2 1) (X 2 2) (X 3 0) (X 3 1) (X 3 2)) (k0_pay43 (X 0 0) (X 0 1) (X 0 2) (X 1 0) (X 1 1) (X 1 2) (X 2 0) (X 2 1) (X 2 2) (X 3 0)) (k0_pay44 (X 0 0) (X 0 1) (X 0 2) (X 1 0) (X 1 1) (X 1 2) (X 2 0) (X 2 1) (X 2 2) (X 3 1))) = fun l => FloatOps.addf (x l) (mf (at_ X l) (nch (w l) (sq l)) 0#32) := by
  have hx := gx_0 X; have hy := gy_0 X
  unfold k0_pay58 k0_pay55 k0_pay56
  rw [hx, hy]; rfl

theorem a_0 : k0_pay53 x ld ld' = fun l => FloatOps.addf (x l) (lenTerm (sc ld l) (sc ld' l)) := rfl

theorem n_1 : k0_pay109 k0_pay218 sq (k0_pay3 w sq) x (k0_pay101 (X 2 0) (X 2 1) (X 2 2) (X 3 0) (X 3 1) (X 3 2) (k0_pay79 (X 1 0) (X 1 1) (X 1 2) (X 2 0) (X 2 1) (X 2 2)) (k0_pay80 (X 1 0) (X 1 1) (X 1 2) (X 2 0) (X 2 1) (X 2 2)) (k0_pay81 (X 1 0) (X 1 1) (X 1 2) (X 2 0) (X 2 1) (X 2 2)) (k0_pay86 (X 0 0) (X 0 1) (X 0 2) (X 1 0) (X 1 1) (X 1 2) (X 2 0) (X 2 1) (X 2 2)) (k0_pay87 (X 0 0) (X 0 1) (X 0 2) (X 1 0) (X 1 1) (X 1 2) (X 2 0) (X 2 1) (X 2 2)) (k0_pay88 (X 0 0) (X 0 1) (X 0 2) (X 1 0) (X 1 1) (X 1 2) (X 2 0) (X 2 1) (X 2 2)) (k0_pay89 (X 0 0) (X 0 1) (X 0 2) (X 1 0) (X 1 1) (X 1 2) (X 2 0) (X 2 1) (X 2 2)) (k0_pay90 (X 0 0) (X 0 1) (X 0 2) (X 1 0) (X 1 1) (X 1 2) (X 2 0) (X 2 1) (X 2 2))) (k0_pay102 (X 2 0) (X 2 1) (X 2 2) (X 3 0) (X 3 1) (X 3 2) (k0_pay79 (X 1 0) (X 1 1) (X 1 2) (X 2 0) (X 2 1) (X 2 2)) (k0_pay80 (X 1 0) (X 1 1) (X 1 2) (X 2 0) (X 2 1) (X 2 2)) (k0_pay81 (X 1 0) (X 1 1) (X 1 2) (X 2 0) (X 2 1) (X 2 2)) (k0_pay86 (X 0 0) (X 0 1) (X 0 2) (X 1 0) (X 1 1) (X 1 2) (X 2 0) (X 2 1) (X 2 2)) (k0_pay87 (X 0 0) (X 0 1) (X 0 2) (X 1 0) (X 1 1) (X 1 2) (X 2 0) (X 2 1) (X 2 2)) (k0_pay88 (X 0 0) (X 0 1) (X 0 2) (X 1 0) (X 1 1) (X 1 2) (X 2 0) (X 2 1) (X 2 2)) (k0_pay89 (X 0 0) (X 0 1) (X 0 2) (X 1 0) (X 1 1) (X 1 2) (X 2 0) (X 2 1) (X 2 2)) (k0_pay90 (X 0 0) (X 0 1) (X 0 2) (X 1 0) (X 1 1) (X 1 2) (X 2 0) (X 2 1) (X 2 2))) (k0_pay103 ld) (k0_pay104 ld') (k0_pay106 ld ld') = fun l => FloatOps.addf (x l) (FloatOps.mulf (md (at_ X l) (flip1 (sq l)) (sc ld l) (sc ld' l)) (mf (at_ X l) (nch (w l) (sq l)) 1#32)) := by
  have hx := gx_1 X; have hy := gy_1 X
  rw [hx, hy]; rfl

theorem c_1 : k0_pay110 k0_pay218 (k0_pay3 w sq) x (k0_pay101 (X 2 0) (X 2 1) (X 2 2) (X 3 0) (X 3 1) (X 3 2) (k0_pay79 (X 1 0) (X 1 1) (X 1 2) (X 2 0) (X 2 1) (X 2 2)) (k0_pay80 (X 1 0) (X 1 1) (X 1 2) (X 2 0) (X 2 1) (X 2 2)) (k0_pay81 (X 1 0) (X 1 1) (X 1 2) (X 2 0) (X 2 1) (X 2 2)) (k0_pay86 (X 0 0) (X 0 1) (X 0 2) (X 1 0) (X 1 1) (X 1 2) (X 2 0) (X 2 1) (X 2 2)) (k0_pay87 (X 0 0) (X 0 1) (X 0 2) (X 1 0) (X 1 1) (X 1 2) (X 2 0) (X 2 1) (X 2 2)) (k0_pay88 (X 0 0) (X 0 1) (X 0 2) (X 1 0) (X 1 1) (X 1 2) (X 2 0) (X 2 1) (X 2 2)) (k0_pay89 (X 0 0) (X 0 1) (X 0 2) (X 1 0) (X 1 1) (X 1 2) (X 2 0) (X 2 1) (X 2 2)) (k0_pay90 (X 0 0) (X 0 1) (X 0 2) (X 1 0) (X 1 1) (X 1 2) (X 2 0) (X 2 1) (X 2 2))) (k0_pay102 (X 2 0) (X 2 1) (X 2 2) (X 3 0) (X 3 1) (X 3 2) (k0_pay79 (X 1 0) (X 1 1) (X 1 2) (X 2 0) (X 2 1) (X 2 2)) (k0_pay80 (X 1 0) (X 1 1) (X 1 2) (X 2 0) (X 2 1) (X 2 2)) (k0_pay81 (X 1 0) (X 1 1) (X 1 2) (X 2 0) (X 2 1) (X 2 2)) (k0_pay86 (X 0 0) (X 0 1) (X 0 2) (X 1 0) (X 1 1) (X 1 2) (X 2 0) (X 2 1) (X 2 2)) (k0_pay87 (X 0 0) (X 0 1) (X 0 2) (X 1 0) (X 1 1) (X 1 2) (X 2 0) (X 2 1) (X 2 2)) (k0_pay88 (X 0 0) (X 0 1) (X 0 2) (X 1 0) (X 1 1) (X 1 2) (X 2 0) (X 2 1) (X 2 2)) (k0_pay89 (X 0 0) (X 0 1) (X 0 2) (X 1 0) (X 1 1) (X 1 2) (X 2 0) (X 2 1) (X 2 2)) (k0_pay90 (X 0 0) (X 0 1) (X 0 2) (X 1 0) (X 1 1) (X 1 2) (X 2 0) (X 2 1) (X 2 2))) = fun l => FloatOps.addf (x l) (mf (at_ X l) (nch (w l) (sq l)) 1#32) := by
  have hx := gx_1 X; have hy := gy_1 X
  rw [hx, hy]; rfl

theorem a_1 : k0_pay107 x (k0_pay105 ld ld') (k0_pay106 ld ld') = fun l => FloatOps.addf (x l) (lenTerm (sc ld l) (sc ld' l)) := rfl

theorem n_2 : k0_pay163 k0_pay218 sq (k0_pay3 w sq) x (k0_pay153 (X 2 0) (X 2 1) (X 2 2) (X 3 0) (X 3 1) (X 3 2) (k0_pay131 (X 1 0) (X 1 1) (X 1 2) (X 2 0) (X 2 1) (X 2 2)) (k0_pay132 (X 1 0) (X 1 1) (X 1 2) (X 2 0) (X 2 1) (X 2 2)) (k0_pay142 (X 0 0) (X 0 1) (X 0 2) (X 1 0) (X 1 1) (X 1 2) (X 2 0) (X 2 1) (X 2 2)) (k0_pay143 (X 0 0) (X 0 1) (X 0 2) (X 1 0) (X 1 1) (X 1 2) (X 2 0) (X 2 1) (X 2 2)) (k0_pay144 (X 0 0) (X 0 1) (X 0 2) (X 1 0) (X 1 1) (X 1 2) (X 2 0) (X 2 1) (X 2 2)) (k0_pay145 (X 0 0) (X 0 1) (X 0 2) (X 1 0) (X 1 1) (X 1 2) (X 2 0) (X 2 1) (X 2 2)) (k0_pay146 (X 0 0) (X 0 1) (X 0 2) (X 1 0) (X 1 1) (X 1 2) (X 2 0) (X 2 1) (X 2 2))) (k0_pay154 (X 2 0) (X 2 1) (X 2 2) (X 3 0) (X 3 1) (X 3 2) (k0_pay131 (X 1 0) (X 1 1) (X 1 2) (X 2 0) (X 2 1) (X 2 2)) (k0_pay132 (X 1 0) (X 1 1) (X 1 2) (X 2 0) (X 2 1) (X 2 2)) (k0_pay142 (X 0 0) (X 0 1) (X 0 2) (X 1 0) (X 1 1) (X 1 2) (X 2 0) (X 2 1) (X 2 2)) (k0_pay143 (X 0 0) (X 0 1) (X 0 2) (X 1 0) (X 1 1) (X 1 2) (X 2 0) (X 2 1) (X 2 2)) (k0_pay144 (X 0 0) (X 0 1) (X 0 2) (X 1 0) (X 1 1) (X 1 2) (X 2 0) (X 2 1) (X 2 2)) (k0_pay145 (X 0 0) (X 0 1) (X 0 2) (X 1 0) (X 1 1) (X 1 2) (X 2 0) (X 2 1) (X 2 2)) (k0_pay146 (X 0 0) (X 0 1) (X 0 2) (X 1 0) (X 1 1) (X 1 2) (X 2 0) (X 2 1) (X 2 2))) (k0_pay159 ld ld') (k0_pay160 ld ld') = fun l => FloatOps.addf (x l) (FloatOps.mulf (md (at_ X l) (flip2 (sq l)) (sc ld l) (sc ld' l)) (mf (at_ X l) (nch (w l) (sq l)) 2#32)) := by
  have hx := gx_2 X; have hy := gy_2 X
  rw [hx, hy]; rfl

theorem c_2 : k0_pay164 k0_pay218 (k0_pay3 w sq) x (k0_pay153 (X 2 0) (X 2 1) (X 2 2) (X 3 0) (X 3 1) (X 3 2) (k0_pay131 (X 1 0) (X 1 1) (X 1 2) (X 2 0) (X 2 1) (X 2 2)) (k0_pay132 (X 1 0) (X 1 1) (X 1 2) (X 2 0) (X 2 1) (X 2 2)) (k0_pay142 (X 0 0) (X 0 1) (X 0 2) (X 1 0) (X 1 1) (X 1 2) (X 2 0) (X 2 1) (X 2 2)) (k0_pay143 (X 0 0) (X 0 1) (X 0 2) (X 1 0) (X 1 1) (X 1 2) (X 2 0) (X 2 1) (X 2 2)) (k0_pay144 (X 0 0) (X 0 1) (X 0 2) (X 1 0) (X 1 1) (X 1 2) (X 2 0) (X 2 1) (X 2 2)) (k0_pay145 (X 0 0) (X 0 1) (X 0 2) (X 1 0) (X 1 1) (X 1 2) (X 2 0) (X 2 1) (X 2 2)) (k0_pay146 (X 0 0) (X 0 1) (X 0 2) (X 1 0) (X 1 1) (X 1 2) (X 2 0) (X 2 1) (X 2 2))) (k0_pay154 (X 2 0) (X 2 1) (X 2 2) (X 3 0) (X 3 1) (X 3 2) (k0_pay131 (X 1 0) (X 1 1) (X 1 2) (X 2 0) (X 2 1) (X 2 2)) (k0_pay132 (X 1 0) (X 1 1) (X 1 2) (X 2 0) (X 2 1) (X 2 2)) (k0_pay142 (X 0 0) (X 0 1) (X 0 2) (X 1 0) (X 1 1) (X 1 2) (X 2 0) (X 2 1) (X 2 2)) (k0_pay143 (X 0 0) (X 0 1) (X 0 2) (X 1 0) (X 1 1) (X 1 2) (X 2 0) (X 2 1) (X 2 2)) (k0_pay144 (X 0 0) (X 0 1) (X 0 2) (X 1 0) (X 1 1) (X 1 2) (X 2 0) (X 2 1) (X 2 2)) (k0_pay145 (X 0 0) (X 0 1) (X 0 2) (X 1 0) (X 1 1) (X 1 2) (X 2 0) (X 2 1) (X 2 2)) (k0_pay146 (X 0 0) (X 0 1) (X 0 2) (X 1 0) (X 1 1) (X 1 2) (X 2 0) (X 2 1) (X 2 2))) = fun l => FloatOps.addf (x l) (mf (at_ X l) (nch (w l) (sq l)) 2#32) := by
  have hx := gx_2 X; have hy := gy_2 X
  rw [hx, hy]; rfl

theorem a_2 : k0_pay161 x ld ld' = fun l => FloatOps.addf (x l) (lenTerm (sc ld l) (sc ld' l)) := rfl

theorem n_3 : k0_pay219 x (k0_pay217 k0_pay218 (k0_pay3 w sq) (k0_pay204 (X 0 0) (X 0 1) (X 0 2) (X 2 0) (X 2 1) (X 2 2) (X 3 0) (X 3 1) (X 3 2) (k0_pay181 (X 1 0) (X 2 0)) (k0_pay182 (X 1 1) (X 2 1)) (k0_pay183 (X 1 2) (X 2 2)) (k0_pay184 (X 1 0) (X 2 0)) (k0_pay185 (X 1 1) (X 2 1))) (k0_pay205 (X 0 0) (X 0 1) (X 0 2) (X 2 0) (X 2 1) (X 2 2) (X 3 0) (X 3 1) (X 3 2) (k0_pay181 (X 1 0) (X 2 0)) (k0_pay182 (X 1 1) (X 2 1)) (k0_pay183 (X 1 2) (X 2 2)) (k0_pay184 (X 1 0) (X 2 0)) (k0_pay185 (X 1 1) (X 2 1))) (k0_pay206 (X 0 0) (X 0 1) (X 0 2) (X 2 0) (X 2 1) (X 2 2) (X 3 0) (X 3 1) (X 3 2) (k0_pay181 (X 1 0) (X 2 0)) (k0_pay182 (X 1 1) (X 2 1)) (k0_pay183 (X 1 2) (X 2 2)) (k0_pay184 (X 1 0) (X 2 0)) (k0_pay185 (X 1 1) (X 2 1))) (k0_pay207 (X 0 0) (X 0 1) (X 0 2) (X 2 0) (X 2 1) (X 2 2) (X 3 0) (X 3 1) (X 3 2) (k0_pay181 (X 1 0) (X 2 0)) (k0_pay182 (X 1 1) (X 2 1)) (k0_pay183 (X 1 2) (X 2 2)) (k0_pay184 (X 1 0) (X 2 0)) (k0_pay185 (X 1 1) (X 2 1))) ld ld') = fun l => FloatOps.addf (x l) (FloatOps.mulf (dg2 (at_ X l) (sc ld l) (sc ld' l)) (mf (at_ X l) (nch (w l) (sq l)) 3#32)) := by
  have hx := gx_3 X; have hy := gy_3 X
  unfold k0_pay219 k0_pay217 k0_pay211 k0_pay214 k0_pay212 k0_pay216 k0_pay213
  rw [hx, hy]; rfl

theorem c_3 : k0_pay220 x (k0_pay216 k0_pay218 (k0_pay3 w sq) (k0_pay204 (X 0 0) (X 0 1) (X 0 2) (X 2 0) (X 2 1) (X 2 2) (X 3 0) (X 3 1) (X 3 2) (k0_pay181 (X 1 0) (X 2 0)) (k0_pay182 (X 1 1) (X 2 1)) (k0_pay183 (X 1 2) (X 2 2)) (k0_pay184 (X 1 0) (X 2 0)) (k0_pay185 (X 1 1) (X 2 1))) (k0_pay205 (X 0 0) (X 0 1) (X 0 2) (X 2 0) (X 2 1) (X 2 2) (X 3 0) (X 3 1) (X 3 2) (k0_pay181 (X 1 0) (X 2 0)) (k0_pay182 (X 1 1) (X 2 1)) (k0_pay183 (X 1 2) (X 2 2)) (k0_pay184 (X 1 0) (X 2 0)) (k0_pay185 (X 1 1) (X 2 1))) (k0_pay206 (X 0 0) (X 0 1) (X 0 2) (X 2 0) (X 2 1) (X 2 2) (X 3 0) (X 3 1) (X 3 2) (k0_pay181 (X 1 0) (X 2 0)) (k0_pay182 (X 1 1) (X 2 1)) (k0_pay183 (X 1 2) (X 2 2)) (k0_pay184 (X 1 0) (X 2 0)) (k0_pay185 (X 1 1) (X 2 1))) (k0_pay207 (X 0 0) (X 0 1) (X 0 2) (X 2 0) (X 2 1) (X 2 2) (X 3 0) (X 3 1) (X 3 2) (k0_pay181 (X 1 0) (X 2 0)) (k0_pay182 (X 1 1) (X 2 1)) (k0_pay183 (X 1 2) (X 2 2)) (k0_pay184 (X 1 0) (X 2 0)) (k0_pay185 (X 1 1) (X 2 1)))) = fun l => FloatOps.addf (x l) (mf (at_ X l) (nch (w l) (sq l)) 3#32) := by
  have hx := gx_3 X; have hy := gy_3 X
  unfold k0_pay220 k0_pay216
  rw [hx, hy]; rfl

theorem a_3 : k0_pay215 x ld ld' = fun l => FloatOps.addf (x l) (lenTerm (sc ld l) (sc ld' l)) := rfl

end Cert.Proof.Vals

end
-- ==== Proof.Trip.lean ====
/-
  One trip of the kernel's loop on a vector subcore: what it reads, and the values it carries on.

  A trip only reads the subcore's four scratch arrays (the atoms' coordinates, the predicted angles, the residue types and
  the table of atom numbers), so a stretch of it is described by `Runs`: from the arrays held at given contents the program
  runs to a given value, the arrays as they were. The whole trip is such a stretch.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.Pointwise.Index
public import proofs.«01_k».proof.Proof.Gen.KernelIdeal
public import proofs.«01_k».proof.Proof.Gen.KernelIdeal.Skeleton
public import proofs.«01_k».proof.Proof.Vals

@[expose] public section

noncomputable section

namespace Cert.Proof.Trip

open Cert.KernelIdeal Cert.KernelIdeal.Gen
open Cert.Proof.Vals

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

abbrev cV (L : grid0.Coords) : Fin τ.nSC := (L 0).castLE hcore0
abbrev jV (L : grid0.Coords) : Fin τ.nSub := (L 1).castLE hsub0

/-- A subcore's scratch arrays, as the body addresses them. -/
abbrev sC : Memref sig .scVector .vmem S111x128 .f32 := Memref.whole cc0_scratch0
abbrev sA : Memref sig .scVector .vmem S4x2x128 .f32 := Memref.whole cc0_scratch1
abbrev sQ : Memref sig .scVector .vmem S128 .i32 := Memref.whole cc0_scratch2
abbrev sT : Memref sig .scVector .vmem S384 .i32 := Memref.whole cc0_scratch3
abbrev sO : Memref sig .scVector .vmem S48 .f32 := Memref.whole cc0_scratch4

/-! ## Looking the arrays up -/

variable (C : Vec F S111x128 .f32) (A : Vec F S4x2x128 .f32) (Q : Vec F S128 .i32) (Tb : Vec F S384 .i32)

variable [FloatOps F]

/-- The coordinate in row `r` for the residue in column `n`; the table's word `n`; the predicted angle. -/
def cAt (r n : ℕ) : F .f32 := if h : r < 111 ∧ n < 128 then C (ix2 ⟨r, h.1⟩ ⟨n, h.2⟩) else zero
def tAt (n : ℕ) : BitVec 32 := if h : n < 384 then Tb (ix1 ⟨n, h⟩) else 0#32
def qAt (n : ℕ) : BitVec 32 := if h : n < 128 then Q (ix1 ⟨n, h⟩) else 0#32
def aAt (j : Fin 4) (b : Fin 2) (n : ℕ) : F .f32 := if h : n < 128 then A (ix3 j b ⟨n, h⟩) else zero

/-- The same at every lane. -/
def gC (n v : IVec S16 32) : Vec F S16 .f32 := fun l => cAt C (v l).toNat (n l).toNat
def gT (v : IVec S16 32) : Vec F S16 .i32 := fun l => tAt Tb (v l).toNat

/-- Sixteen residue types from word `o` on. -/
def q16 (o : ℕ) : Vec F S16 .i32 := fun l => qAt Q (o + (l 0).val)
/-- Sixteen components `b` of the angle `j`, from residue `o` on. -/
def a16 (j : Fin 4) (b : Fin 2) (o : ℕ) : Vec F S1x1x16 .f32 := fun l => aAt A j b (o + (l 2).val)

/-! ## Stretches of the program that only read -/

section Runs

variable (d : Dev nD) (L : grid0.Coords)

/-- The four arrays a trip reads, whole. -/
abbrev Hold : sProp 𝕄 :=
  iprop(((sC).view.loc (V d (cV L) (jV L)) ↦{fullShare} C) ∗ ((sA).view.loc (V d (cV L) (jV L)) ↦{fullShare} A)
    ∗ ((sQ).view.loc (V d (cV L) (jV L)) ↦{fullShare} Q) ∗ ((sT).view.loc (V d (cV L) (jV L)) ↦{fullShare} Tb))

/-- From the arrays at their contents the program runs to the value `v`, the arrays unchanged. -/
def Runs {α : Type} (p : Prog (TpuEff nD τ sig (Elt F) Λ₀ (.scVector (cV L) (jV L))) α) (v : α) : Prop :=
  ∀ Φ : α → sProp 𝕄, iprop(Hold C A Q Tb d L ∗ (Hold C A Q Tb d L -∗ Φ v))
    ⊢ wp frame (wpE (defs₀ (F := F)) 𝒱₀ (V d (cV L) (jV L)) none) Set.univ p Φ

variable {C A Q Tb d L}

theorem runs_pure {α : Type} (v : α) : Runs C A Q Tb d L (pure v) v := by
  intro Φ
  rw [wp_pure]
  iintro ⟨H, HW⟩
  imodintro
  iapply HW; iexact H

theorem runs_bind {α β : Type} {p : Prog (TpuEff nD τ sig (Elt F) Λ₀ (.scVector (cV L) (jV L))) α} {a : α}
    {k : α → Prog (TpuEff nD τ sig (Elt F) Λ₀ (.scVector (cV L) (jV L))) β} {b : β}
    (h : Runs C A Q Tb d L p a) (hk : Runs C A Q Tb d L (k a) b) : Runs C A Q Tb d L (p >>= k) b := by
  intro Φ
  rw [wp_bind]
  have h' := h fun a => wp frame (wpE (defs₀ (F := F)) 𝒱₀ (V d (cV L) (jV L)) none) Set.univ (k a) Φ
  have hk' := hk Φ
  iintro ⟨H, HW⟩
  iapply h'
  isplitl [H]; · iexact H
  iintro H
  iapply hk'
  isplitl [H]; · iexact H
  iexact HW

theorem runs_assume {P : Prop} {dec : Decidable P} (h : P) :
    Runs C A Q Tb d L (Prog.lift (TpuEff.assume P dec)) ⟨h⟩ := by
  intro Φ
  unfold Prog.lift
  rw [wp_assume_of _ _ _ _ h, wp_ret]
  iintro ⟨H, HW⟩
  imodintro
  iapply HW; iexact H

/-- A program followed by nothing is the program. -/
theorem runs_of_bind_pure {α : Type} {p : Prog (TpuEff nD τ sig (Elt F) Λ₀ (.scVector (cV L) (jV L))) α} {v : α}
    (h : Runs C A Q Tb d L (p >>= pure) v) : Runs C A Q Tb d L p v := by
  rwa [bind_pure] at h

theorem read_gT (v : IVec S16 32) (h : ∀ a x, ((![v] : Fin 1 → IVec S16 32) a x).toNat < S384.size a) :
    loadIdx ((sT.access (.whole S384)).read (Elt F) Tb) ![v] h = gT Tb v := by
  funext x
  have h0 : (v x).toNat < 384 := h 0 x
  show Tb ((Rect.whole S384).emb (idxAt ![v] h x)) = tAt Tb (v x).toNat
  rw [tAt, dif_pos h0]
  refine congrArg Tb (funext fun a => Fin.ext ?_)
  match a with
  | 0 => show 0 + 1 * (v x).toNat = (v x).toNat; omega

theorem read_gC (n v : IVec S16 32) (h : ∀ a x, ((![v, n] : Fin 2 → IVec S16 32) a x).toNat < S111x128.size a) :
    loadIdx ((sC.access (.whole S111x128)).read (Elt F) C) ![v, n] h = gC C n v := by
  funext x
  have h0 : (v x).toNat < 111 := h 0 x
  have h1 : (n x).toNat < 128 := h 1 x
  show C ((Rect.whole S111x128).emb (idxAt ![v, n] h x)) = cAt C (v x).toNat (n x).toNat
  rw [cAt, dif_pos ⟨h0, h1⟩]
  refine congrArg C (funext fun a => Fin.ext ?_)
  match a with
  | 0 => show 0 + 1 * (v x).toNat = (v x).toNat; omega
  | 1 => show 0 + 1 * (n x).toNat = (n x).toNat; omega

theorem runs_gT (v : IVec S16 32) (h : ∀ a x, ((![v] : Fin 1 → IVec S16 32) a x).toNat < S384.size a) (hl) :
    Runs C A Q Tb d L (SparseCore.vectorLoadIdx sT ![v] h hl) (gT Tb v) := by
  refine runs_of_bind_pure ?_
  intro Φ
  iintro ⟨⟨HC, HA, HQ, HT⟩, HW⟩
  iapply (SparseCore.wp_vectorLoadIdx 𝒱₀ (V d (cV L) (jV L)) none Set.univ (base := sT) (S := Finset.univ) (q := fullShare) (Finset.subset_univ _)) $$ HT
  iintro HT
  rw [wp_pure, read_gT]
  imodintro
  iapply HW
  isplitl [HC]; · iexact HC
  isplitl [HA]; · iexact HA
  isplitl [HQ]; · iexact HQ
  iexact HT

theorem runs_gC (n v : IVec S16 32) (h : ∀ a x, ((![v, n] : Fin 2 → IVec S16 32) a x).toNat < S111x128.size a) (hl) :
    Runs C A Q Tb d L (SparseCore.vectorLoadIdx sC ![v, n] h hl) (gC C n v) := by
  refine runs_of_bind_pure ?_
  intro Φ
  iintro ⟨⟨HC, HA, HQ, HT⟩, HW⟩
  iapply (SparseCore.wp_vectorLoadIdx 𝒱₀ (V d (cV L) (jV L)) none Set.univ (base := sC) (S := Finset.univ) (q := fullShare) (Finset.subset_univ _)) $$ HC
  iintro HC
  rw [wp_pure, read_gC]
  imodintro
  iapply HW
  isplitl [HC]; · iexact HC
  isplitl [HA]; · iexact HA
  isplitl [HQ]; · iexact HQ
  iexact HT

theorem runs_ldQ (t : Fin k0_t1_loop.trips) (hl) :
    Runs C A Q Tb d L (Prog.lift (.load sQ (Rect.unit (s := S128) (k0_off4 t) S16.size (k0_off4_inb t)).toLoadRect hl)) (q16 Q (16 * t.val)) := by
  intro Φ
  have e : sQ.view.readAt (Elt F) (Rect.unit (s := S128) (k0_off4 t) S16.size (k0_off4_inb t)).toLoadRect Q = q16 Q (16 * t.val) := by
    funext l
    have ht : t.val < 8 := lt_of_lt_of_le t.isLt k0_t1_abs.2.1
    have hl : (l 0).val < 16 := (l 0).isLt
    have ho : k0_off4 t 0 = 16 * t.val := by rw [k0_off4_eq]; rfl
    show Q ((Rect.unit (s := S128) (k0_off4 t) S16.size (k0_off4_inb t)).emb l) = qAt Q (16 * t.val + (l 0).val)
    rw [qAt, dif_pos (by omega)]
    refine congrArg Q (funext fun a => Fin.ext ?_)
    match a with
    | 0 => show k0_off4 t 0 + 1 * (l 0).val = 16 * t.val + (l 0).val; omega
  unfold Prog.lift
  iintro ⟨⟨HC, HA, HQ, HT⟩, HW⟩
  iapply (wp_load 𝒱₀ (V d (cV L) (jV L)) none Set.univ (m := sQ) (S := Finset.univ) (Finset.subset_univ _)) $$ HQ
  iintro HQ
  rw [wp_ret, e]
  imodintro
  iapply HW
  isplitl [HC]; · iexact HC
  isplitl [HA]; · iexact HA
  isplitl [HQ]; · iexact HQ
  iexact HT

theorem runs_ldA (o : Fin 3 → ℕ) (ho : ∀ a, o a + S1x1x16.size a ≤ S4x2x128.size a) (j : Fin 4) (b : Fin 2) (n : ℕ)
    (e : o = ![j.val, b.val, n]) (hl) :
    Runs C A Q Tb d L (Prog.lift (.load sA (Rect.unit (s := S4x2x128) o S1x1x16.size ho).toLoadRect hl)) (a16 A j b n) := by
  subst e
  intro Φ
  have e : sA.view.readAt (Elt F) (Rect.unit (s := S4x2x128) ![j.val, b.val, n] S1x1x16.size ho).toLoadRect A = a16 A j b n := by
    funext l
    have h2 : n + 16 ≤ 128 := ho 2
    have hl : (l 2).val < 16 := (l 2).isLt
    have hl0 : (l 0).val < 1 := (l 0).isLt
    have hl1 : (l 1).val < 1 := (l 1).isLt
    show A ((Rect.unit (s := S4x2x128) ![j.val, b.val, n] S1x1x16.size ho).emb l) = aAt A j b (n + (l 2).val)
    rw [aAt, dif_pos (by omega)]
    refine congrArg A (funext fun a => Fin.ext ?_)
    match a with
    | 0 => show j.val + 1 * (l 0).val = j.val; omega
    | 1 => show b.val + 1 * (l 1).val = b.val; omega
    | 2 => show n + 1 * (l 2).val = n + (l 2).val; omega
  unfold Prog.lift
  iintro ⟨⟨HC, HA, HQ, HT⟩, HW⟩
  iapply (wp_load 𝒱₀ (V d (cV L) (jV L)) none Set.univ (m := sA) (S := Finset.univ) (Finset.subset_univ _)) $$ HA
  iintro HA
  rw [wp_ret, e]
  imodintro
  iapply HW
  isplitl [HC]; · iexact HC
  isplitl [HA]; · iexact HA
  isplitl [HQ]; · iexact HQ
  iexact HT

/-! ## The checks before the gathers, and the gathers' values -/

section Parts

/-- The kernel's arrays in the device's memory, as the body addresses them. -/
abbrev qH : Memref sig .scVector .hbm S4x8x128 .i32 := Memref.whole main_v1_scv
abbrev aH : Memref sig .scVector .hbm S8x7x4x2x128 .f32 := Memref.whole main_v4_scv
abbrev cH : Memref sig .scVector .hbm S111x4x8x128 .f32 := Memref.whole main_v8_scv
abbrev tH : Memref sig .scVector .hbm S384 .i32 := Memref.whole main_c_scv
abbrev oH : Memref sig .scVector .hbm S3x512 .f32 := Memref.whole main_v9_scv

variable (C A Q Tb) in
/-- The table's words `k` after the lanes' residue types' (sixteen words each, `b` the first). -/
def tv (b : IVec S16 32) (k : ℕ) : Vec F S16 .i32 := gT Tb (addi b (broadcast S16 (BitVec.ofNat 32 k)))
variable (C A Q Tb) in
/-- Component `c` of atom `k` of the angle `j`, at every lane: its row by the table, its column `n`. -/
def P (n b : IVec S16 32) (j k : Fin 4) (c : Fin 3) : Vec F S16 .f32 :=
  gC C n (addi (tv Tb b (4 * j.val + k.val)) (broadcast S16 (BitVec.ofNat 32 c.val)))

variable {n b : IVec S16 32}

theorem tv_le (hT : ∀ k, (tAt Tb k).toNat ≤ 108) (v : IVec S16 32) : ∀ l, (gT Tb v l).toNat ≤ 108 := fun _ => hT _

/-- A word a little after one below its bound. -/
theorem toNat_addi_lt {x k : BitVec 32} {B N : ℕ} (hx : x.toNat ≤ B) (hk : B + k.toNat < N) (hN : N ≤ 2 ^ 32) :
    (IntOp.addi x k).toNat < N := by
  have : (x + k).toNat = (x.toNat + k.toNat) % 2 ^ 32 := BitVec.toNat_add x k
  show (x + k).toNat < N
  rw [this, Nat.mod_eq_of_lt (by omega)]; omega

theorem chkT {b : IVec S16 32} (hb : ∀ l, (b l).toNat ≤ 304) {k : BitVec 32} (hk : 304 + k.toNat < 384) :
    ∀ a x, ((![addi b (broadcast S16 k)] : Fin 1 → IVec S16 32) a x).toNat < S384.size a := by
  intro a x
  match a with
  | 0 => exact toNat_addi_lt (hb x) hk (by decide)

theorem chkC {n v : IVec S16 32} (hn : ∀ l, (n l).toNat < 128) (hv : ∀ l, (v l).toNat ≤ 108) {k : BitVec 32} (hk : 108 + k.toNat < 111) :
    ∀ a x, ((![addi v (broadcast S16 k), n] : Fin 2 → IVec S16 32) a x).toNat < S111x128.size a := by
  intro a x
  match a with
  | 0 => exact toNat_addi_lt (hv x) hk (by decide)
  | 1 => exact hn x

/-! ## The parts of a trip -/

theorem part2  (hn : ∀ l, (n l).toNat < 128) (hT : ∀ k, (tAt Tb k).toNat ≤ 108) (hb : ∀ l, (b l).toNat ≤ 304) :
    Runs C A Q Tb d L (k0_part2 L qH (Memref.isWhole_whole _) aH (Memref.isWhole_whole _) cH (Memref.isWhole_whole _) tH (Memref.isWhole_whole _) oH (Memref.isWhole_whole _) sC (Memref.isWhole_whole _) sA (Memref.isWhole_whole _) sQ (Memref.isWhole_whole _) sT (Memref.isWhole_whole _) sO (Memref.isWhole_whole _) cc0_scratch5 cc0_scratch6 cc0_scratch7 cc0_scratch8 cc0_scoped0 cc0_scoped1 cc0_scoped2 n b)
      ⟨(P C Tb n b 0 1 0), (P C Tb n b 0 1 1), (P C Tb n b 0 1 2), (P C Tb n b 0 2 0), (P C Tb n b 0 2 1), (P C Tb n b 0 2 2), (P C Tb n b 0 3 0), (P C Tb n b 0 3 1), (P C Tb n b 0 3 2)⟩ := by
  rw [k0_part2_eq_skeleton]; unfold k0_part2_skel
  refine runs_bind (runs_assume (chkT hb (by decide))) (runs_bind (runs_gT _ _ _) ?_)
  refine runs_bind (runs_assume (chkC hn (tv_le hT _) (by decide))) (runs_bind (runs_gC _ _ _ _) ?_)
  refine runs_bind (runs_assume (chkC hn (tv_le hT _) (by decide))) (runs_bind (runs_gC _ _ _ _) ?_)
  refine runs_bind (runs_assume (chkC hn (tv_le hT _) (by decide))) (runs_bind (runs_gC _ _ _ _) ?_)
  refine runs_bind (runs_assume (chkT hb (by decide))) (runs_bind (runs_gT _ _ _) ?_)
  refine runs_bind (runs_assume (chkC hn (tv_le hT _) (by decide))) (runs_bind (runs_gC _ _ _ _) ?_)
  refine runs_bind (runs_assume (chkC hn (tv_le hT _) (by decide))) (runs_bind (runs_gC _ _ _ _) ?_)
  refine runs_bind (runs_assume (chkC hn (tv_le hT _) (by decide))) (runs_bind (runs_gC _ _ _ _) ?_)
  refine runs_bind (runs_assume (chkT hb (by decide))) (runs_bind (runs_gT _ _ _) ?_)
  refine runs_bind (runs_assume (chkC hn (tv_le hT _) (by decide))) (runs_bind (runs_gC _ _ _ _) ?_)
  refine runs_bind (runs_assume (chkC hn (tv_le hT _) (by decide))) (runs_bind (runs_gC _ _ _ _) ?_)
  refine runs_bind (runs_assume (chkC hn (tv_le hT _) (by decide))) (runs_bind (runs_gC _ _ _ _) ?_)
  exact runs_pure _

theorem part3  :
    Runs C A Q Tb d L (k0_part3 L qH (Memref.isWhole_whole _) aH (Memref.isWhole_whole _) cH (Memref.isWhole_whole _) tH (Memref.isWhole_whole _) oH (Memref.isWhole_whole _) sC (Memref.isWhole_whole _) sA (Memref.isWhole_whole _) sQ (Memref.isWhole_whole _) sT (Memref.isWhole_whole _) sO (Memref.isWhole_whole _) cc0_scratch5 cc0_scratch6 cc0_scratch7 cc0_scratch8 cc0_scoped0 cc0_scoped1 cc0_scoped2 (P C Tb n b 0 0 0) (P C Tb n b 0 0 1) (P C Tb n b 0 0 2) (P C Tb n b 0 1 0) (P C Tb n b 0 1 1) (P C Tb n b 0 1 2) (P C Tb n b 0 2 0) (P C Tb n b 0 2 1) (P C Tb n b 0 2 2) (P C Tb n b 0 3 0) (P C Tb n b 0 3 1) (P C Tb n b 0 3 2))
      ⟨k0_pay38 (P C Tb n b 0 0 0) (P C Tb n b 0 0 1) (P C Tb n b 0 0 2) (P C Tb n b 0 1 0) (P C Tb n b 0 1 1) (P C Tb n b 0 1 2) (P C Tb n b 0 2 0) (P C Tb n b 0 2 1) (P C Tb n b 0 2 2), k0_pay41 (P C Tb n b 0 2 2) (P C Tb n b 0 3 2), k0_pay42 (P C Tb n b 0 0 0) (P C Tb n b 0 0 1) (P C Tb n b 0 0 2) (P C Tb n b 0 1 0) (P C Tb n b 0 1 1) (P C Tb n b 0 1 2) (P C Tb n b 0 2 0) (P C Tb n b 0 2 1) (P C Tb n b 0 2 2) (P C Tb n b 0 3 0) (P C Tb n b 0 3 1) (P C Tb n b 0 3 2), k0_pay43 (P C Tb n b 0 0 0) (P C Tb n b 0 0 1) (P C Tb n b 0 0 2) (P C Tb n b 0 1 0) (P C Tb n b 0 1 1) (P C Tb n b 0 1 2) (P C Tb n b 0 2 0) (P C Tb n b 0 2 1) (P C Tb n b 0 2 2) (P C Tb n b 0 3 0), k0_pay44 (P C Tb n b 0 0 0) (P C Tb n b 0 0 1) (P C Tb n b 0 0 2) (P C Tb n b 0 1 0) (P C Tb n b 0 1 1) (P C Tb n b 0 1 2) (P C Tb n b 0 2 0) (P C Tb n b 0 2 1) (P C Tb n b 0 2 2) (P C Tb n b 0 3 1)⟩ := by
  rw [k0_part3_eq_skeleton]; unfold k0_part3_skel

  exact runs_pure _

theorem part4 (t : Fin k0_t1_loop.trips) (arg19 : FVec F S16 .f32) (v61 : BitVec 32) (v88 : IVec S16 32) (v184 : FVec F S16 .f32) (v187 : FVec F S16 .f32) (v192 : FVec F S16 .f32) (v193 : FVec F S16 .f32) (v194 : FVec F S16 .f32) :
    Runs C A Q Tb d L (k0_part4 L qH (Memref.isWhole_whole _) aH (Memref.isWhole_whole _) cH (Memref.isWhole_whole _) tH (Memref.isWhole_whole _) oH (Memref.isWhole_whole _) sC (Memref.isWhole_whole _) sA (Memref.isWhole_whole _) sQ (Memref.isWhole_whole _) sT (Memref.isWhole_whole _) sO (Memref.isWhole_whole _) cc0_scratch5 cc0_scratch6 cc0_scratch7 cc0_scratch8 cc0_scoped0 cc0_scoped1 cc0_scoped2 t arg19 v61 v88 v184 v187 v192 v193 v194)
      ⟨k0_pay53 arg19 (a16 A 0 0 (16 * t.val)) (a16 A 0 1 (16 * t.val)), k0_pay54 v184 v187 v192 v193 v194 (a16 A 0 0 (16 * t.val)) (a16 A 0 1 (16 * t.val)), k0_pay55 v88 v184 v187 v192 v193 v194⟩ := by
  rw [k0_part4_eq_skeleton]; unfold k0_part4_skel
  refine runs_bind (runs_ldA _ (k0_off5_inb t) 0 0 _ (k0_off5_eq t) _) ?_
  refine runs_bind (runs_ldA _ (k0_off6_inb t) 0 1 _ (k0_off6_eq t) _) ?_
  exact runs_pure _

theorem part5 (v54 : FVec F S16 .f32) (arg17 : FVec F S16 .f32) (arg18 : FVec F S16 .f32) (v236 : FVec F S16 .f32) (v242 : IVec S16 1) (hn : ∀ l, (n l).toNat < 128) (hT : ∀ k, (tAt Tb k).toNat ≤ 108) (hb : ∀ l, (b l).toNat ≤ 304) :
    Runs C A Q Tb d L (k0_part5 L qH (Memref.isWhole_whole _) aH (Memref.isWhole_whole _) cH (Memref.isWhole_whole _) tH (Memref.isWhole_whole _) oH (Memref.isWhole_whole _) sC (Memref.isWhole_whole _) sA (Memref.isWhole_whole _) sQ (Memref.isWhole_whole _) sT (Memref.isWhole_whole _) sO (Memref.isWhole_whole _) cc0_scratch5 cc0_scratch6 cc0_scratch7 cc0_scratch8 cc0_scoped0 cc0_scoped1 cc0_scoped2 v54 arg17 arg18 n b v236 v242)
      ⟨k0_pay57 v54 arg17 v236 v242, k0_pay58 v54 arg18 v242, (P C Tb n b 1 0 0), (P C Tb n b 1 0 1), (P C Tb n b 1 0 2), (P C Tb n b 1 1 0), (P C Tb n b 1 1 1), (P C Tb n b 1 1 2), (tv Tb b 6), (P C Tb n b 1 2 0), k0_pay69 (tv Tb b 6)⟩ := by
  rw [k0_part5_eq_skeleton]; unfold k0_part5_skel
  refine runs_bind (runs_assume (chkT hb (by decide))) (runs_bind (runs_gT _ _ _) ?_)
  refine runs_bind (runs_assume (chkC hn (tv_le hT _) (by decide))) (runs_bind (runs_gC _ _ _ _) ?_)
  refine runs_bind (runs_assume (chkC hn (tv_le hT _) (by decide))) (runs_bind (runs_gC _ _ _ _) ?_)
  refine runs_bind (runs_assume (chkC hn (tv_le hT _) (by decide))) (runs_bind (runs_gC _ _ _ _) ?_)
  refine runs_bind (runs_assume (chkT hb (by decide))) (runs_bind (runs_gT _ _ _) ?_)
  refine runs_bind (runs_assume (chkC hn (tv_le hT _) (by decide))) (runs_bind (runs_gC _ _ _ _) ?_)
  refine runs_bind (runs_assume (chkC hn (tv_le hT _) (by decide))) (runs_bind (runs_gC _ _ _ _) ?_)
  refine runs_bind (runs_assume (chkC hn (tv_le hT _) (by decide))) (runs_bind (runs_gC _ _ _ _) ?_)
  refine runs_bind (runs_assume (chkT hb (by decide))) (runs_bind (runs_gT _ _ _) ?_)
  refine runs_bind (runs_assume (chkC hn (tv_le hT _) (by decide))) (runs_bind (runs_gC _ _ _ _) ?_)
  exact runs_pure _

theorem part6  (hn : ∀ l, (n l).toNat < 128) (hT : ∀ k, (tAt Tb k).toNat ≤ 108) (hb : ∀ l, (b l).toNat ≤ 304) :
    Runs C A Q Tb d L (k0_part6 L qH (Memref.isWhole_whole _) aH (Memref.isWhole_whole _) cH (Memref.isWhole_whole _) tH (Memref.isWhole_whole _) oH (Memref.isWhole_whole _) sC (Memref.isWhole_whole _) sA (Memref.isWhole_whole _) sQ (Memref.isWhole_whole _) sT (Memref.isWhole_whole _) sO (Memref.isWhole_whole _) cc0_scratch5 cc0_scratch6 cc0_scratch7 cc0_scratch8 cc0_scoped0 cc0_scoped1 cc0_scoped2 n b (P C Tb n b 1 0 0) (P C Tb n b 1 0 1) (P C Tb n b 1 0 2) (P C Tb n b 1 1 0) (P C Tb n b 1 1 1) (P C Tb n b 1 1 2) (tv Tb b 6) (P C Tb n b 1 2 0) (k0_pay69 (tv Tb b 6)))
      ⟨(P C Tb n b 1 2 1), (P C Tb n b 1 2 2), (P C Tb n b 1 3 0), (P C Tb n b 1 3 1), (P C Tb n b 1 3 2), k0_pay79 (P C Tb n b 1 1 0) (P C Tb n b 1 1 1) (P C Tb n b 1 1 2) (P C Tb n b 1 2 0) (P C Tb n b 1 2 1) (P C Tb n b 1 2 2), k0_pay80 (P C Tb n b 1 1 0) (P C Tb n b 1 1 1) (P C Tb n b 1 1 2) (P C Tb n b 1 2 0) (P C Tb n b 1 2 1) (P C Tb n b 1 2 2), k0_pay81 (P C Tb n b 1 1 0) (P C Tb n b 1 1 1) (P C Tb n b 1 1 2) (P C Tb n b 1 2 0) (P C Tb n b 1 2 1) (P C Tb n b 1 2 2), k0_pay86 (P C Tb n b 1 0 0) (P C Tb n b 1 0 1) (P C Tb n b 1 0 2) (P C Tb n b 1 1 0) (P C Tb n b 1 1 1) (P C Tb n b 1 1 2) (P C Tb n b 1 2 0) (P C Tb n b 1 2 1) (P C Tb n b 1 2 2), k0_pay87 (P C Tb n b 1 0 0) (P C Tb n b 1 0 1) (P C Tb n b 1 0 2) (P C Tb n b 1 1 0) (P C Tb n b 1 1 1) (P C Tb n b 1 1 2) (P C Tb n b 1 2 0) (P C Tb n b 1 2 1) (P C Tb n b 1 2 2), k0_pay88 (P C Tb n b 1 0 0) (P C Tb n b 1 0 1) (P C Tb n b 1 0 2) (P C Tb n b 1 1 0) (P C Tb n b 1 1 1) (P C Tb n b 1 1 2) (P C Tb n b 1 2 0) (P C Tb n b 1 2 1) (P C Tb n b 1 2 2), k0_pay89 (P C Tb n b 1 0 0) (P C Tb n b 1 0 1) (P C Tb n b 1 0 2) (P C Tb n b 1 1 0) (P C Tb n b 1 1 1) (P C Tb n b 1 1 2) (P C Tb n b 1 2 0) (P C Tb n b 1 2 1) (P C Tb n b 1 2 2), k0_pay90 (P C Tb n b 1 0 0) (P C Tb n b 1 0 1) (P C Tb n b 1 0 2) (P C Tb n b 1 1 0) (P C Tb n b 1 1 1) (P C Tb n b 1 1 2) (P C Tb n b 1 2 0) (P C Tb n b 1 2 1) (P C Tb n b 1 2 2)⟩ := by
  rw [k0_part6_eq_skeleton]; unfold k0_part6_skel
  refine runs_bind (runs_assume (chkC hn (tv_le hT _) (by decide))) (runs_bind (runs_gC _ _ _ _) ?_)
  refine runs_bind (runs_assume (chkC hn (tv_le hT _) (by decide))) (runs_bind (runs_gC _ _ _ _) ?_)
  refine runs_bind (runs_assume (chkT hb (by decide))) (runs_bind (runs_gT _ _ _) ?_)
  refine runs_bind (runs_assume (chkC hn (tv_le hT _) (by decide))) (runs_bind (runs_gC _ _ _ _) ?_)
  refine runs_bind (runs_assume (chkC hn (tv_le hT _) (by decide))) (runs_bind (runs_gC _ _ _ _) ?_)
  refine runs_bind (runs_assume (chkC hn (tv_le hT _) (by decide))) (runs_bind (runs_gC _ _ _ _) ?_)
  exact runs_pure _

theorem part7 (t : Fin k0_t1_loop.trips) (v61 : BitVec 32) (v308 : FVec F S16 .f32) (v309 : FVec F S16 .f32) (v310 : FVec F S16 .f32) (v320 : FVec F S16 .f32) (v322 : FVec F S16 .f32) (v324 : FVec F S16 .f32) (v327 : FVec F S16 .f32) (v328 : FVec F S16 .f32) :
    Runs C A Q Tb d L (k0_part7 L qH (Memref.isWhole_whole _) aH (Memref.isWhole_whole _) cH (Memref.isWhole_whole _) tH (Memref.isWhole_whole _) oH (Memref.isWhole_whole _) sC (Memref.isWhole_whole _) sA (Memref.isWhole_whole _) sQ (Memref.isWhole_whole _) sT (Memref.isWhole_whole _) sO (Memref.isWhole_whole _) cc0_scratch5 cc0_scratch6 cc0_scratch7 cc0_scratch8 cc0_scoped0 cc0_scoped1 cc0_scoped2 t v61 (P C Tb n b 1 2 0) (P C Tb n b 1 2 1) (P C Tb n b 1 2 2) (P C Tb n b 1 3 0) (P C Tb n b 1 3 1) (P C Tb n b 1 3 2) v308 v309 v310 v320 v322 v324 v327 v328)
      ⟨k0_pay101 (P C Tb n b 1 2 0) (P C Tb n b 1 2 1) (P C Tb n b 1 2 2) (P C Tb n b 1 3 0) (P C Tb n b 1 3 1) (P C Tb n b 1 3 2) v308 v309 v310 v320 v322 v324 v327 v328, k0_pay102 (P C Tb n b 1 2 0) (P C Tb n b 1 2 1) (P C Tb n b 1 2 2) (P C Tb n b 1 3 0) (P C Tb n b 1 3 1) (P C Tb n b 1 3 2) v308 v309 v310 v320 v322 v324 v327 v328, k0_pay103 (a16 A 1 0 (16 * t.val)), k0_pay104 (a16 A 1 1 (16 * t.val)), k0_pay105 (a16 A 1 0 (16 * t.val)) (a16 A 1 1 (16 * t.val)), k0_pay106 (a16 A 1 0 (16 * t.val)) (a16 A 1 1 (16 * t.val))⟩ := by
  rw [k0_part7_eq_skeleton]; unfold k0_part7_skel
  refine runs_bind (runs_ldA _ (k0_off7_inb t) 1 0 _ (k0_off7_eq t) _) ?_
  refine runs_bind (runs_ldA _ (k0_off8_inb t) 1 1 _ (k0_off8_eq t) _) ?_
  exact runs_pure _

theorem part8 (v54 : FVec F S16 .f32) (v65 : Vec F S16 .i32) (v88 : IVec S16 32) (v229 : FVec F S16 .f32) (v247 : FVec F S16 .f32) (v248 : FVec F S16 .f32) (v364 : FVec F S16 .f32) (v365 : FVec F S16 .f32) (v369 : Vec F S16 .f32) (v373 : Vec F S16 .f32) (v378 : FVec F S16 .f32) (v379 : FVec F S16 .f32) (hb : ∀ l, (b l).toNat ≤ 304) :
    Runs C A Q Tb d L (k0_part8 L qH (Memref.isWhole_whole _) aH (Memref.isWhole_whole _) cH (Memref.isWhole_whole _) tH (Memref.isWhole_whole _) oH (Memref.isWhole_whole _) sC (Memref.isWhole_whole _) sA (Memref.isWhole_whole _) sQ (Memref.isWhole_whole _) sT (Memref.isWhole_whole _) sO (Memref.isWhole_whole _) cc0_scratch5 cc0_scratch6 cc0_scratch7 cc0_scratch8 cc0_scoped0 cc0_scoped1 cc0_scoped2 v54 v65 b v88 v229 v247 v248 v364 v365 v369 v373 v378 v379)
      ⟨k0_pay107 v229 v378 v379, k0_pay109 v54 v65 v88 v247 v364 v365 v369 v373 v379, k0_pay110 v54 v88 v248 v364 v365, (tv Tb b 8)⟩ := by
  rw [k0_part8_eq_skeleton]; unfold k0_part8_skel
  refine runs_bind (runs_assume (chkT hb (by decide))) (runs_bind (runs_gT _ _ _) ?_)
  exact runs_pure _

theorem part9  (hn : ∀ l, (n l).toNat < 128) (hT : ∀ k, (tAt Tb k).toNat ≤ 108) (hb : ∀ l, (b l).toNat ≤ 304) :
    Runs C A Q Tb d L (k0_part9 L qH (Memref.isWhole_whole _) aH (Memref.isWhole_whole _) cH (Memref.isWhole_whole _) tH (Memref.isWhole_whole _) oH (Memref.isWhole_whole _) sC (Memref.isWhole_whole _) sA (Memref.isWhole_whole _) sQ (Memref.isWhole_whole _) sT (Memref.isWhole_whole _) sO (Memref.isWhole_whole _) cc0_scratch5 cc0_scratch6 cc0_scratch7 cc0_scratch8 cc0_scoped0 cc0_scoped1 cc0_scoped2 n b (tv Tb b 8))
      ⟨(P C Tb n b 2 0 0), (P C Tb n b 2 0 1), (P C Tb n b 2 0 2), (P C Tb n b 2 1 0), (P C Tb n b 2 1 1), (P C Tb n b 2 1 2), (P C Tb n b 2 2 0), (P C Tb n b 2 2 1), (P C Tb n b 2 2 2), (tv Tb b 11)⟩ := by
  rw [k0_part9_eq_skeleton]; unfold k0_part9_skel
  refine runs_bind (runs_assume (chkC hn (tv_le hT _) (by decide))) (runs_bind (runs_gC _ _ _ _) ?_)
  refine runs_bind (runs_assume (chkC hn (tv_le hT _) (by decide))) (runs_bind (runs_gC _ _ _ _) ?_)
  refine runs_bind (runs_assume (chkC hn (tv_le hT _) (by decide))) (runs_bind (runs_gC _ _ _ _) ?_)
  refine runs_bind (runs_assume (chkT hb (by decide))) (runs_bind (runs_gT _ _ _) ?_)
  refine runs_bind (runs_assume (chkC hn (tv_le hT _) (by decide))) (runs_bind (runs_gC _ _ _ _) ?_)
  refine runs_bind (runs_assume (chkC hn (tv_le hT _) (by decide))) (runs_bind (runs_gC _ _ _ _) ?_)
  refine runs_bind (runs_assume (chkC hn (tv_le hT _) (by decide))) (runs_bind (runs_gC _ _ _ _) ?_)
  refine runs_bind (runs_assume (chkT hb (by decide))) (runs_bind (runs_gT _ _ _) ?_)
  refine runs_bind (runs_assume (chkC hn (tv_le hT _) (by decide))) (runs_bind (runs_gC _ _ _ _) ?_)
  refine runs_bind (runs_assume (chkC hn (tv_le hT _) (by decide))) (runs_bind (runs_gC _ _ _ _) ?_)
  refine runs_bind (runs_assume (chkC hn (tv_le hT _) (by decide))) (runs_bind (runs_gC _ _ _ _) ?_)
  refine runs_bind (runs_assume (chkT hb (by decide))) (runs_bind (runs_gT _ _ _) ?_)
  exact runs_pure _

theorem part10  (hn : ∀ l, (n l).toNat < 128) (hT : ∀ k, (tAt Tb k).toNat ≤ 108) :
    Runs C A Q Tb d L (k0_part10 L qH (Memref.isWhole_whole _) aH (Memref.isWhole_whole _) cH (Memref.isWhole_whole _) tH (Memref.isWhole_whole _) oH (Memref.isWhole_whole _) sC (Memref.isWhole_whole _) sA (Memref.isWhole_whole _) sQ (Memref.isWhole_whole _) sT (Memref.isWhole_whole _) sO (Memref.isWhole_whole _) cc0_scratch5 cc0_scratch6 cc0_scratch7 cc0_scratch8 cc0_scoped0 cc0_scoped1 cc0_scoped2 n (P C Tb n b 2 0 0) (P C Tb n b 2 0 1) (P C Tb n b 2 0 2) (P C Tb n b 2 1 0) (P C Tb n b 2 1 1) (P C Tb n b 2 1 2) (P C Tb n b 2 2 0) (P C Tb n b 2 2 1) (P C Tb n b 2 2 2) (tv Tb b 11))
      ⟨(P C Tb n b 2 3 0), (P C Tb n b 2 3 1), (P C Tb n b 2 3 2), k0_pay131 (P C Tb n b 2 1 0) (P C Tb n b 2 1 1) (P C Tb n b 2 1 2) (P C Tb n b 2 2 0) (P C Tb n b 2 2 1) (P C Tb n b 2 2 2), k0_pay132 (P C Tb n b 2 1 0) (P C Tb n b 2 1 1) (P C Tb n b 2 1 2) (P C Tb n b 2 2 0) (P C Tb n b 2 2 1) (P C Tb n b 2 2 2), k0_pay142 (P C Tb n b 2 0 0) (P C Tb n b 2 0 1) (P C Tb n b 2 0 2) (P C Tb n b 2 1 0) (P C Tb n b 2 1 1) (P C Tb n b 2 1 2) (P C Tb n b 2 2 0) (P C Tb n b 2 2 1) (P C Tb n b 2 2 2), k0_pay143 (P C Tb n b 2 0 0) (P C Tb n b 2 0 1) (P C Tb n b 2 0 2) (P C Tb n b 2 1 0) (P C Tb n b 2 1 1) (P C Tb n b 2 1 2) (P C Tb n b 2 2 0) (P C Tb n b 2 2 1) (P C Tb n b 2 2 2), k0_pay144 (P C Tb n b 2 0 0) (P C Tb n b 2 0 1) (P C Tb n b 2 0 2) (P C Tb n b 2 1 0) (P C Tb n b 2 1 1) (P C Tb n b 2 1 2) (P C Tb n b 2 2 0) (P C Tb n b 2 2 1) (P C Tb n b 2 2 2), k0_pay145 (P C Tb n b 2 0 0) (P C Tb n b 2 0 1) (P C Tb n b 2 0 2) (P C Tb n b 2 1 0) (P C Tb n b 2 1 1) (P C Tb n b 2 1 2) (P C Tb n b 2 2 0) (P C Tb n b 2 2 1) (P C Tb n b 2 2 2), k0_pay146 (P C Tb n b 2 0 0) (P C Tb n b 2 0 1) (P C Tb n b 2 0 2) (P C Tb n b 2 1 0) (P C Tb n b 2 1 1) (P C Tb n b 2 1 2) (P C Tb n b 2 2 0) (P C Tb n b 2 2 1) (P C Tb n b 2 2 2)⟩ := by
  rw [k0_part10_eq_skeleton]; unfold k0_part10_skel
  refine runs_bind (runs_assume (chkC hn (tv_le hT _) (by decide))) (runs_bind (runs_gC _ _ _ _) ?_)
  refine runs_bind (runs_assume (chkC hn (tv_le hT _) (by decide))) (runs_bind (runs_gC _ _ _ _) ?_)
  refine runs_bind (runs_assume (chkC hn (tv_le hT _) (by decide))) (runs_bind (runs_gC _ _ _ _) ?_)
  exact runs_pure _

theorem part11 (t : Fin k0_t1_loop.trips) (v61 : BitVec 32) (v389 : FVec F S16 .f32) (v485 : FVec F S16 .f32) (v486 : FVec F S16 .f32) (v510 : FVec F S16 .f32) (v511 : FVec F S16 .f32) (v512 : FVec F S16 .f32) (v515 : FVec F S16 .f32) (v516 : FVec F S16 .f32) :
    Runs C A Q Tb d L (k0_part11 L qH (Memref.isWhole_whole _) aH (Memref.isWhole_whole _) cH (Memref.isWhole_whole _) tH (Memref.isWhole_whole _) oH (Memref.isWhole_whole _) sC (Memref.isWhole_whole _) sA (Memref.isWhole_whole _) sQ (Memref.isWhole_whole _) sT (Memref.isWhole_whole _) sO (Memref.isWhole_whole _) cc0_scratch5 cc0_scratch6 cc0_scratch7 cc0_scratch8 cc0_scoped0 cc0_scoped1 cc0_scoped2 t v61 v389 (P C Tb n b 2 2 0) (P C Tb n b 2 2 1) (P C Tb n b 2 2 2) (P C Tb n b 2 3 0) (P C Tb n b 2 3 1) (P C Tb n b 2 3 2) v485 v486 v510 v511 v512 v515 v516)
      ⟨k0_pay153 (P C Tb n b 2 2 0) (P C Tb n b 2 2 1) (P C Tb n b 2 2 2) (P C Tb n b 2 3 0) (P C Tb n b 2 3 1) (P C Tb n b 2 3 2) v485 v486 v510 v511 v512 v515 v516, k0_pay154 (P C Tb n b 2 2 0) (P C Tb n b 2 2 1) (P C Tb n b 2 2 2) (P C Tb n b 2 3 0) (P C Tb n b 2 3 1) (P C Tb n b 2 3 2) v485 v486 v510 v511 v512 v515 v516, k0_pay159 (a16 A 2 0 (16 * t.val)) (a16 A 2 1 (16 * t.val)), k0_pay160 (a16 A 2 0 (16 * t.val)) (a16 A 2 1 (16 * t.val)), k0_pay161 v389 (a16 A 2 0 (16 * t.val)) (a16 A 2 1 (16 * t.val))⟩ := by
  rw [k0_part11_eq_skeleton]; unfold k0_part11_skel
  refine runs_bind (runs_ldA _ (k0_off9_inb t) 2 0 _ (k0_off9_eq t) _) ?_
  refine runs_bind (runs_ldA _ (k0_off10_inb t) 2 1 _ (k0_off10_eq t) _) ?_
  exact runs_pure _

theorem part12 (v54 : FVec F S16 .f32) (v65 : Vec F S16 .i32) (v88 : IVec S16 32) (v424 : FVec F S16 .f32) (v425 : FVec F S16 .f32) (v541 : FVec F S16 .f32) (v542 : FVec F S16 .f32) (v557 : FVec F S16 .f32) (v558 : FVec F S16 .f32) (hn : ∀ l, (n l).toNat < 128) (hT : ∀ k, (tAt Tb k).toNat ≤ 108) (hb : ∀ l, (b l).toNat ≤ 304) :
    Runs C A Q Tb d L (k0_part12 L qH (Memref.isWhole_whole _) aH (Memref.isWhole_whole _) cH (Memref.isWhole_whole _) tH (Memref.isWhole_whole _) oH (Memref.isWhole_whole _) sC (Memref.isWhole_whole _) sA (Memref.isWhole_whole _) sQ (Memref.isWhole_whole _) sT (Memref.isWhole_whole _) sO (Memref.isWhole_whole _) cc0_scratch5 cc0_scratch6 cc0_scratch7 cc0_scratch8 cc0_scoped0 cc0_scoped1 cc0_scoped2 v54 n v65 b v88 v424 v425 v541 v542 v557 v558)
      ⟨k0_pay163 v54 v65 v88 v424 v541 v542 v557 v558, k0_pay164 v54 v88 v425 v541 v542, (P C Tb n b 3 0 0), (P C Tb n b 3 0 1), (P C Tb n b 3 0 2), (tv Tb b 13)⟩ := by
  rw [k0_part12_eq_skeleton]; unfold k0_part12_skel
  refine runs_bind (runs_assume (chkT hb (by decide))) (runs_bind (runs_gT _ _ _) ?_)
  refine runs_bind (runs_assume (chkC hn (tv_le hT _) (by decide))) (runs_bind (runs_gC _ _ _ _) ?_)
  refine runs_bind (runs_assume (chkC hn (tv_le hT _) (by decide))) (runs_bind (runs_gC _ _ _ _) ?_)
  refine runs_bind (runs_assume (chkC hn (tv_le hT _) (by decide))) (runs_bind (runs_gC _ _ _ _) ?_)
  refine runs_bind (runs_assume (chkT hb (by decide))) (runs_bind (runs_gT _ _ _) ?_)
  exact runs_pure _

theorem part13  (hn : ∀ l, (n l).toNat < 128) (hT : ∀ k, (tAt Tb k).toNat ≤ 108) (hb : ∀ l, (b l).toNat ≤ 304) :
    Runs C A Q Tb d L (k0_part13 L qH (Memref.isWhole_whole _) aH (Memref.isWhole_whole _) cH (Memref.isWhole_whole _) tH (Memref.isWhole_whole _) oH (Memref.isWhole_whole _) sC (Memref.isWhole_whole _) sA (Memref.isWhole_whole _) sQ (Memref.isWhole_whole _) sT (Memref.isWhole_whole _) sO (Memref.isWhole_whole _) cc0_scratch5 cc0_scratch6 cc0_scratch7 cc0_scratch8 cc0_scoped0 cc0_scoped1 cc0_scoped2 n b (tv Tb b 13))
      ⟨(P C Tb n b 3 2 0), (P C Tb n b 3 2 1), (P C Tb n b 3 2 2), (P C Tb n b 3 3 0), (P C Tb n b 3 3 1), (P C Tb n b 3 3 2), k0_pay181 (P C Tb n b 3 1 0) (P C Tb n b 3 2 0), k0_pay182 (P C Tb n b 3 1 1) (P C Tb n b 3 2 1), k0_pay183 (P C Tb n b 3 1 2) (P C Tb n b 3 2 2), k0_pay184 (P C Tb n b 3 1 0) (P C Tb n b 3 2 0), k0_pay185 (P C Tb n b 3 1 1) (P C Tb n b 3 2 1)⟩ := by
  rw [k0_part13_eq_skeleton]; unfold k0_part13_skel
  refine runs_bind (runs_assume (chkC hn (tv_le hT _) (by decide))) (runs_bind (runs_gC _ _ _ _) ?_)
  refine runs_bind (runs_assume (chkC hn (tv_le hT _) (by decide))) (runs_bind (runs_gC _ _ _ _) ?_)
  refine runs_bind (runs_assume (chkC hn (tv_le hT _) (by decide))) (runs_bind (runs_gC _ _ _ _) ?_)
  refine runs_bind (runs_assume (chkT hb (by decide))) (runs_bind (runs_gT _ _ _) ?_)
  refine runs_bind (runs_assume (chkC hn (tv_le hT _) (by decide))) (runs_bind (runs_gC _ _ _ _) ?_)
  refine runs_bind (runs_assume (chkC hn (tv_le hT _) (by decide))) (runs_bind (runs_gC _ _ _ _) ?_)
  refine runs_bind (runs_assume (chkC hn (tv_le hT _) (by decide))) (runs_bind (runs_gC _ _ _ _) ?_)
  refine runs_bind (runs_assume (chkT hb (by decide))) (runs_bind (runs_gT _ _ _) ?_)
  refine runs_bind (runs_assume (chkC hn (tv_le hT _) (by decide))) (runs_bind (runs_gC _ _ _ _) ?_)
  refine runs_bind (runs_assume (chkC hn (tv_le hT _) (by decide))) (runs_bind (runs_gC _ _ _ _) ?_)
  refine runs_bind (runs_assume (chkC hn (tv_le hT _) (by decide))) (runs_bind (runs_gC _ _ _ _) ?_)
  exact runs_pure _

theorem part14 (v645 : FVec F S16 .f32) (v646 : FVec F S16 .f32) (v647 : FVec F S16 .f32) (v648 : FVec F S16 .f32) (v649 : FVec F S16 .f32) :
    Runs C A Q Tb d L (k0_part14 L qH (Memref.isWhole_whole _) aH (Memref.isWhole_whole _) cH (Memref.isWhole_whole _) tH (Memref.isWhole_whole _) oH (Memref.isWhole_whole _) sC (Memref.isWhole_whole _) sA (Memref.isWhole_whole _) sQ (Memref.isWhole_whole _) sT (Memref.isWhole_whole _) sO (Memref.isWhole_whole _) cc0_scratch5 cc0_scratch6 cc0_scratch7 cc0_scratch8 cc0_scoped0 cc0_scoped1 cc0_scoped2 (P C Tb n b 3 0 0) (P C Tb n b 3 0 1) (P C Tb n b 3 0 2) (P C Tb n b 3 2 0) (P C Tb n b 3 2 1) (P C Tb n b 3 2 2) (P C Tb n b 3 3 0) (P C Tb n b 3 3 1) (P C Tb n b 3 3 2) v645 v646 v647 v648 v649)
      ⟨k0_pay204 (P C Tb n b 3 0 0) (P C Tb n b 3 0 1) (P C Tb n b 3 0 2) (P C Tb n b 3 2 0) (P C Tb n b 3 2 1) (P C Tb n b 3 2 2) (P C Tb n b 3 3 0) (P C Tb n b 3 3 1) (P C Tb n b 3 3 2) v645 v646 v647 v648 v649, k0_pay205 (P C Tb n b 3 0 0) (P C Tb n b 3 0 1) (P C Tb n b 3 0 2) (P C Tb n b 3 2 0) (P C Tb n b 3 2 1) (P C Tb n b 3 2 2) (P C Tb n b 3 3 0) (P C Tb n b 3 3 1) (P C Tb n b 3 3 2) v645 v646 v647 v648 v649, k0_pay206 (P C Tb n b 3 0 0) (P C Tb n b 3 0 1) (P C Tb n b 3 0 2) (P C Tb n b 3 2 0) (P C Tb n b 3 2 1) (P C Tb n b 3 2 2) (P C Tb n b 3 3 0) (P C Tb n b 3 3 1) (P C Tb n b 3 3 2) v645 v646 v647 v648 v649, k0_pay207 (P C Tb n b 3 0 0) (P C Tb n b 3 0 1) (P C Tb n b 3 0 2) (P C Tb n b 3 2 0) (P C Tb n b 3 2 1) (P C Tb n b 3 2 2) (P C Tb n b 3 3 0) (P C Tb n b 3 3 1) (P C Tb n b 3 3 2) v645 v646 v647 v648 v649⟩ := by
  rw [k0_part14_eq_skeleton]; unfold k0_part14_skel

  exact runs_pure _

theorem part15 (v54 : FVec F S16 .f32) (t : Fin k0_t1_loop.trips) (v61 : BitVec 32) (v88 : IVec S16 32) (v566 : FVec F S16 .f32) (v700 : FVec F S16 .f32) (v705 : FVec F S16 .f32) (v706 : FVec F S16 .f32) (v707 : FVec F S16 .f32) :
    Runs C A Q Tb d L (k0_part15 L qH (Memref.isWhole_whole _) aH (Memref.isWhole_whole _) cH (Memref.isWhole_whole _) tH (Memref.isWhole_whole _) oH (Memref.isWhole_whole _) sC (Memref.isWhole_whole _) sA (Memref.isWhole_whole _) sQ (Memref.isWhole_whole _) sT (Memref.isWhole_whole _) sO (Memref.isWhole_whole _) cc0_scratch5 cc0_scratch6 cc0_scratch7 cc0_scratch8 cc0_scoped0 cc0_scoped1 cc0_scoped2 v54 t v61 v88 v566 v700 v705 v706 v707)
      ⟨k0_pay215 v566 (a16 A 3 0 (16 * t.val)) (a16 A 3 1 (16 * t.val)), k0_pay216 v54 v88 v700 v705 v706 v707, k0_pay217 v54 v88 v700 v705 v706 v707 (a16 A 3 0 (16 * t.val)) (a16 A 3 1 (16 * t.val))⟩ := by
  rw [k0_part15_eq_skeleton]; unfold k0_part15_skel
  refine runs_bind (runs_ldA _ (k0_off11_inb t) 3 0 _ (k0_off11_eq t) _) ?_
  refine runs_bind (runs_ldA _ (k0_off12_inb t) 3 1 _ (k0_off12_eq t) _) ?_
  exact runs_pure _

/-! ## The whole trip -/

variable (C A Q Tb) in
/-- The columns of a trip's sixteen residues, and the first words of their types in the table. -/
abbrev colV (w : IVec S16 32) (t : Fin k0_t1_loop.trips) : IVec S16 32 := k0_pay1 w 0#32 1#32 t
variable (C A Q Tb) in
abbrev rowV (t : Fin k0_t1_loop.trips) : IVec S16 32 := k0_pay2 (q16 Q (16 * t.val))

theorem part1 (w : IVec S16 32) (t : Fin k0_t1_loop.trips) (hn : ∀ l, (colV w t l).toNat < 128) (hT : ∀ k, (tAt Tb k).toNat ≤ 108)
    (hb : ∀ l, (rowV Q t l).toNat ≤ 304) :
    Runs C A Q Tb d L (k0_part1 L qH (Memref.isWhole_whole _) aH (Memref.isWhole_whole _) cH (Memref.isWhole_whole _) tH (Memref.isWhole_whole _) oH (Memref.isWhole_whole _) sC (Memref.isWhole_whole _) sA (Memref.isWhole_whole _) sQ (Memref.isWhole_whole _) sT (Memref.isWhole_whole _) sO (Memref.isWhole_whole _) cc0_scratch5 cc0_scratch6 cc0_scratch7 cc0_scratch8 cc0_scoped0 cc0_scoped1 cc0_scoped2 w 0#32 1#32 t)
      ⟨Scalar.muli (Scf.iv 0#32 1#32 t) 16#32, colV w t, q16 Q (16 * t.val), rowV Q t, k0_pay3 w (q16 Q (16 * t.val)),
        P C Tb (colV w t) (rowV Q t) 0 0 0, P C Tb (colV w t) (rowV Q t) 0 0 1, P C Tb (colV w t) (rowV Q t) 0 0 2⟩ := by
  rw [k0_part1_eq_skeleton]; unfold k0_part1_skel
  refine runs_bind (runs_ldQ t _) ?_
  refine runs_bind (runs_assume (chkT hb (by decide))) (runs_bind (runs_gT _ _ _) ?_)
  refine runs_bind (runs_assume (chkC hn (tv_le hT _) (by decide))) (runs_bind (runs_gC _ _ _ _) ?_)
  refine runs_bind (runs_assume (chkC hn (tv_le hT _) (by decide))) (runs_bind (runs_gC _ _ _ _) ?_)
  refine runs_bind (runs_assume (chkC hn (tv_le hT _) (by decide))) (runs_bind (runs_gC _ _ _ _) ?_)
  exact runs_pure _

/-- The lane that a load of one row of sixteen words has its word for lane `l` in. -/
theorem sc_a16 (j : Fin 4) (i : Fin 2) (o : ℕ) (l : S16.Idx) : sc (a16 A j i o) l = aAt A j i (o + (l 0).val) := by
  have h : ∀ l : S16.Idx, (Shape.reshapeEquiv shapeCasts_S1x1x16_S16 l 2).val = (l 0).val := by decide +kernel
  show aAt A j i (o + (Shape.reshapeEquiv shapeCasts_S1x1x16_S16 l 2).val) = _
  rw [h]

variable (C A Q Tb) in
/-- What a trip carries on, at every lane. -/
def trN (w : IVec S16 32) (t : Fin k0_t1_loop.trips) (x : FVec F S16 .f32) : FVec F S16 .f32 := fun l =>
  stepN (fun j k c => P C Tb (colV w t) (rowV Q t) j k c l) (fun j i => aAt A j i (16 * t.val + (l 0).val)) (w l) (qAt Q (16 * t.val + (l 0).val)) (x l)
variable (C A Q Tb) in
def trD (w : IVec S16 32) (t : Fin k0_t1_loop.trips) (x : FVec F S16 .f32) : FVec F S16 .f32 := fun l =>
  stepD (fun j k c => P C Tb (colV w t) (rowV Q t) j k c l) (w l) (qAt Q (16 * t.val + (l 0).val)) (x l)
variable (C A Q Tb) in
def trA (t : Fin k0_t1_loop.trips) (x : FVec F S16 .f32) : FVec F S16 .f32 := fun l =>
  stepA (fun j i => aAt A j i (16 * t.val + (l 0).val)) (x l)

theorem runs_pure_eq {α : Type} {v v' : α} (h : v = v') : Runs C A Q Tb d L (pure v) v' := h ▸ runs_pure v

/-- A trip of the loop. -/
theorem trip (w : IVec S16 32) (t : Fin k0_t1_loop.trips) (hn : ∀ l, (colV w t l).toNat < 128) (hT : ∀ k, (tAt Tb k).toNat ≤ 108)
    (hb : ∀ l, (rowV Q t l).toNat ≤ 304) (x y z : FVec F S16 .f32) :
    Runs C A Q Tb d L (k0_t1_body L qH (Memref.isWhole_whole _) aH (Memref.isWhole_whole _) cH (Memref.isWhole_whole _) tH (Memref.isWhole_whole _) oH (Memref.isWhole_whole _) sC (Memref.isWhole_whole _) sA (Memref.isWhole_whole _) sQ (Memref.isWhole_whole _) sT (Memref.isWhole_whole _) sO (Memref.isWhole_whole _) cc0_scratch5 cc0_scratch6 cc0_scratch7 cc0_scratch8 cc0_scoped0 cc0_scoped1 cc0_scoped2 w t (x, y, z)) (trN C A Q Tb w t x, trD C Q Tb w t y, trA A t z) := by
  unfold k0_t1_body
  refine runs_bind (part1 w t hn hT hb) ?_
  refine runs_bind (part2 (n := colV w t) (b := rowV Q t)  hn hT hb) ?_
  refine runs_bind (part3 (n := colV w t) (b := rowV Q t)  ) ?_
  refine runs_bind (part4 _ _ _ _ _ _ _ _ _ ) ?_
  refine runs_bind (part5 (n := colV w t) (b := rowV Q t) _ _ _ _ _ hn hT hb) ?_
  refine runs_bind (part6 (n := colV w t) (b := rowV Q t)  hn hT hb) ?_
  refine runs_bind (part7 (n := colV w t) (b := rowV Q t) _ _ _ _ _ _ _ _ _ _ ) ?_
  refine runs_bind (part8 _ _ _ _ _ _ _ _ _ _ _ _ hb) ?_
  refine runs_bind (part9 (n := colV w t) (b := rowV Q t)  hn hT hb) ?_
  refine runs_bind (part10 (n := colV w t) (b := rowV Q t)  hn hT) ?_
  refine runs_bind (part11 (n := colV w t) (b := rowV Q t) _ _ _ _ _ _ _ _ _ _ ) ?_
  refine runs_bind (part12 (n := colV w t) (b := rowV Q t) _ _ _ _ _ _ _ _ _ hn hT hb) ?_
  refine runs_bind (part13 (n := colV w t) (b := rowV Q t)  hn hT hb) ?_
  refine runs_bind (part14 (n := colV w t) (b := rowV Q t) _ _ _ _ _ ) ?_
  refine runs_bind (part15 _ _ _ _ _ _ _ _ _ ) ?_
  refine runs_pure_eq (Prod.ext ?_ (Prod.ext ?_ ?_))
  · show k0_pay219 _ _ = _
    rw [n_0 (P C Tb (colV w t) (rowV Q t) 0), n_1 (P C Tb (colV w t) (rowV Q t) 1), n_2 (P C Tb (colV w t) (rowV Q t) 2),
      n_3 (P C Tb (colV w t) (rowV Q t) 3)]
    simp only [sc_a16]
    rfl
  · show k0_pay220 _ _ = _
    rw [c_0 (P C Tb (colV w t) (rowV Q t) 0), c_1 (P C Tb (colV w t) (rowV Q t) 1), c_2 (P C Tb (colV w t) (rowV Q t) 2),
      c_3 (P C Tb (colV w t) (rowV Q t) 3)]
    rfl
  · show k0_pay215 _ _ _ = _
    rw [a_0, a_1, a_2, a_3]
    simp only [sc_a16]
    rfl

end Parts

end Runs

end Cert.Proof.Trip

end
-- ==== Proof.Tile.lean ====
/-
  The kernel on one vector subcore: four copies in, eight trips of the loop, three stores and three copies out.

  The subcore reads shares of the whole arrays and owns three pieces of the result, sixteen columns of each of its rows.
  From any contents of the arrays in which the residue types are below twenty and the table's words at most 108, it leaves
  the pieces at the sums `outF` says, and everything else as it was.
-/
module

public import proofs.«01_k».proof.Proof.Trip

@[expose] public section

noncomputable section

namespace Cert.Proof.Tile

open Cert.KernelIdeal Cert.KernelIdeal.Gen
open Cert.Proof.Vals Cert.Proof.Trip

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The subcore's pieces of the arrays, as the body slices them -/

section Slices

variable (L : grid0.Coords)

abbrev cSl : Memref sig .scVector .hbm S111x128 .f32 :=
  (cH.slice (Rect.unit (s := S111x4x8x128) (k0_off1 L) S111x1x1x128.size (k0_off1_inb L)) (fun _ => rfl)).squeeze S111x128 squeezes_S111x1x1x128_S111x128
abbrev aSl : Memref sig .scVector .hbm S4x2x128 .f32 :=
  (aH.slice (Rect.unit (s := S8x7x4x2x128) (k0_off2 L) S1x4x1x2x128.size (k0_off2_inb L)) (fun _ => rfl)).squeeze S4x2x128 squeezes_S1x4x1x2x128_S4x2x128
abbrev qSl : Memref sig .scVector .hbm S128 .i32 :=
  (qH.slice (Rect.unit (s := S4x8x128) (k0_off3 L) S1x1x128.size (k0_off3_inb L)) (fun _ => rfl)).squeeze S128 squeezes_S1x1x128_S128
abbrev oSl0 : Memref sig .scVector .hbm S16 .f32 :=
  (oH.slice (Rect.unit (s := S3x512) (k0_off13 L) S1x16.size (k0_off13_inb L)) (fun _ => rfl)).squeeze S16 squeezes_S1x16_S16
abbrev oSl1 : Memref sig .scVector .hbm S16 .f32 :=
  (oH.slice (Rect.unit (s := S3x512) (k0_off14 L) S1x16.size (k0_off14_inb L)) (fun _ => rfl)).squeeze S16 squeezes_S1x16_S16
abbrev oSl2 : Memref sig .scVector .hbm S16 .f32 :=
  (oH.slice (Rect.unit (s := S3x512) (k0_off15 L) S1x16.size (k0_off15_inb L)) (fun _ => rfl)).squeeze S16 squeezes_S1x16_S16

variable (qv : Vec F S4x8x128 .i32) (av : Vec F S8x7x4x2x128 .f32) (cv : Vec F S111x4x8x128 .f32) (tb : Vec F S384 .i32)

/-- What the copies in leave in the scratch arrays. -/
def cT : Vec F S111x128 .f32 := (cSl L).view.read (Elt F) cv
def aT : Vec F S4x2x128 .f32 := (aSl L).view.read (Elt F) av
def qT : Vec F S128 .i32 := (qSl L).view.read (Elt F) qv

/-- The lanes' numbers. -/
abbrev lanes : IVec S16 32 := iota .scVector S16 32 [0] iota_S16_d0_w32_scVector

/-- The three sums after so many trips. -/
def accAt : ℕ → FVec F S16 .f32 × FVec F S16 .f32 × FVec F S16 .f32
  | 0 => (k0_pay218, k0_pay218, k0_pay218)
  | k + 1 => if h : k < k0_t1_loop.trips then
      (trN (cT L cv) (aT L av) (qT L qv) tb lanes ⟨k, h⟩ (accAt k).1, trD (cT L cv) (qT L qv) tb lanes ⟨k, h⟩ (accAt k).2.1,
        trA (aT L av) ⟨k, h⟩ (accAt k).2.2)
    else accAt k

theorem accAt_succ (k : Fin k0_t1_loop.trips) :
    accAt L qv av cv tb (k.val + 1) = (trN (cT L cv) (aT L av) (qT L qv) tb lanes k (accAt L qv av cv tb k.val).1,
      trD (cT L cv) (qT L qv) tb lanes k (accAt L qv av cv tb k.val).2.1, trA (aT L av) k (accAt L qv av cv tb k.val).2.2) := by
  rw [accAt, dif_pos k.isLt]

end Slices

/-- The subcore of core `c`'s subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The subcore that writes a column of the result. -/
def tileOf (i : S3x512.Idx) : grid0.Coords :=
  coordsV ⟨(i 1).val / 16 % 2, by show _ < 2; omega⟩ ⟨(i 1).val / 32, by have : (i 1).val < 512 := (i 1).isLt; show _ < 16; omega⟩

/-- A lane's number as an index. -/
def lane (n : ℕ) : S16.Idx := fun a => match a with | 0 => (Fin.ofNat 16 n : Fin 16)

/-- What the kernel leaves in the result: in a row, one of the three sums, and in a column, that of one lane of one subcore. -/
def outF (qv : Vec F S4x8x128 .i32) (av : Vec F S8x7x4x2x128 .f32) (cv : Vec F S111x4x8x128 .f32) (tb : Vec F S384 .i32) : Vec F S3x512 .f32 := fun i =>
  if (i 0).val = 0 then (accAt (tileOf i) qv av cv tb k0_t1_loop.trips).1 (lane (i 1).val)
  else if (i 0).val = 1 then (accAt (tileOf i) qv av cv tb k0_t1_loop.trips).2.1 (lane (i 1).val)
  else (accAt (tileOf i) qv av cv tb k0_t1_loop.trips).2.2 (lane (i 1).val)

section Pieces

variable (L : grid0.Coords)

omit [FloatOps F] in
theorem lane_of (y : S16.Idx) (n : ℕ) (h : n % 16 = (y 0).val) : lane n = y := by
  funext a
  match a with
  | 0 => exact Fin.ext h

omit [FloatOps F] in
theorem unsq (y : S16.Idx) : ((Shape.reshapeEquiv squeezes_S1x16_S16.numel_eq y) 0).val = 0 ∧ ((Shape.reshapeEquiv squeezes_S1x16_S16.numel_eq y) 1).val = (y 0).val := by
  revert y; decide +kernel

omit [FloatOps F] in
/-- The place in the result of an element of a piece. -/
theorem emb0 (y : S16.Idx) : ((oSl0 L).view.emb y 0).val = 0 ∧ ((oSl0 L).view.emb y 1).val = 32 * (L 1).val + 16 * (L 0).val + (y 0).val := by
  have h0 : ((oSl0 L).view.emb y 0).val = k0_off13 L 0 + 1 * ((Shape.reshapeEquiv squeezes_S1x16_S16.numel_eq y) 0).val := rfl
  have h1 : ((oSl0 L).view.emb y 1).val = k0_off13 L 1 + 1 * ((Shape.reshapeEquiv squeezes_S1x16_S16.numel_eq y) 1).val := rfl
  rw [h0, h1, (unsq y).1, (unsq y).2, k0_off13_eq, one_mul, one_mul]
  exact ⟨rfl, rfl⟩
omit [FloatOps F] in
theorem emb1 (y : S16.Idx) : ((oSl1 L).view.emb y 0).val = 1 ∧ ((oSl1 L).view.emb y 1).val = 32 * (L 1).val + 16 * (L 0).val + (y 0).val := by
  have h0 : ((oSl1 L).view.emb y 0).val = k0_off14 L 0 + 1 * ((Shape.reshapeEquiv squeezes_S1x16_S16.numel_eq y) 0).val := rfl
  have h1 : ((oSl1 L).view.emb y 1).val = k0_off14 L 1 + 1 * ((Shape.reshapeEquiv squeezes_S1x16_S16.numel_eq y) 1).val := rfl
  rw [h0, h1, (unsq y).1, (unsq y).2, k0_off14_eq, one_mul, one_mul]
  exact ⟨rfl, rfl⟩
omit [FloatOps F] in
theorem emb2 (y : S16.Idx) : ((oSl2 L).view.emb y 0).val = 2 ∧ ((oSl2 L).view.emb y 1).val = 32 * (L 1).val + 16 * (L 0).val + (y 0).val := by
  have h0 : ((oSl2 L).view.emb y 0).val = k0_off15 L 0 + 1 * ((Shape.reshapeEquiv squeezes_S1x16_S16.numel_eq y) 0).val := rfl
  have h1 : ((oSl2 L).view.emb y 1).val = k0_off15 L 1 + 1 * ((Shape.reshapeEquiv squeezes_S1x16_S16.numel_eq y) 1).val := rfl
  rw [h0, h1, (unsq y).1, (unsq y).2, k0_off15_eq, one_mul, one_mul]
  exact ⟨rfl, rfl⟩

omit [FloatOps F] in
theorem tileOf_of (i : S3x512.Idx) (y : S16.Idx) (h : (i 1).val = 32 * (L 1).val + 16 * (L 0).val + (y 0).val) : tileOf i = L := by
  have h0 : (L 0).val < 2 := (L 0).isLt
  have hy : (y 0).val < 16 := (y 0).isLt
  funext a
  match a with
  | 0 => exact Fin.ext (show (i 1).val / 16 % 2 = (L 0).val by omega)
  | 1 => exact Fin.ext (show (i 1).val / 32 = (L 1).val by omega)

omit [FloatOps F] in
theorem lane_emb (i : S3x512.Idx) (y : S16.Idx) (h : (i 1).val = 32 * (L 1).val + 16 * (L 0).val + (y 0).val) : lane (i 1).val = y :=
  lane_of y _ (by have hy : (y 0).val < 16 := (y 0).isLt; omega)

section
variable (qv : Vec F S4x8x128 .i32) (av : Vec F S8x7x4x2x128 .f32) (cv : Vec F S111x4x8x128 .f32) (tb : Vec F S384 .i32)

/-- The result at a piece is the subcore's sum. -/
theorem outF0 (y : S16.Idx) : outF qv av cv tb ((oSl0 L).view.emb y) = (accAt L qv av cv tb k0_t1_loop.trips).1 y := by
  obtain ⟨h0, h1⟩ := emb0 L y
  rw [outF, if_pos h0, tileOf_of L _ y h1, lane_emb L _ y h1]
theorem outF1 (y : S16.Idx) : outF qv av cv tb ((oSl1 L).view.emb y) = (accAt L qv av cv tb k0_t1_loop.trips).2.1 y := by
  obtain ⟨h0, h1⟩ := emb1 L y
  rw [outF, if_neg (by omega), if_pos h0, tileOf_of L _ y h1, lane_emb L _ y h1]
theorem outF2 (y : S16.Idx) : outF qv av cv tb ((oSl2 L).view.emb y) = (accAt L qv av cv tb k0_t1_loop.trips).2.2 y := by
  obtain ⟨h0, h1⟩ := emb2 L y
  rw [outF, if_neg (by omega), if_neg (by omega), tileOf_of L _ y h1, lane_emb L _ y h1]
end

omit [FloatOps F] in
/-- The three sums, stored one after the other, read back each from its place. -/
theorem stored {fO : Vec F S48 .f32} {x y z : FVec F S16 .f32} :
    (sO.slice (Rect.unit (s := S48) ![0] S16.size inb_S48_S16_0) (fun _ => rfl)).view.read (Elt F) (sO.view.writes (Elt F) fO
        [⟨Rect.unit (s := S48) ![32] S16.size inb_S48_S16_32, z⟩, ⟨Rect.unit (s := S48) ![16] S16.size inb_S48_S16_16, y⟩, ⟨Rect.unit (s := S48) ![0] S16.size inb_S48_S16_0, x⟩]) = x
    ∧ (sO.slice (Rect.unit (s := S48) ![16] S16.size inb_S48_S16_16) (fun _ => rfl)).view.read (Elt F) (sO.view.writes (Elt F) fO
        [⟨Rect.unit (s := S48) ![32] S16.size inb_S48_S16_32, z⟩, ⟨Rect.unit (s := S48) ![16] S16.size inb_S48_S16_16, y⟩, ⟨Rect.unit (s := S48) ![0] S16.size inb_S48_S16_0, x⟩]) = y
    ∧ (sO.slice (Rect.unit (s := S48) ![32] S16.size inb_S48_S16_32) (fun _ => rfl)).view.read (Elt F) (sO.view.writes (Elt F) fO
        [⟨Rect.unit (s := S48) ![32] S16.size inb_S48_S16_32, z⟩, ⟨Rect.unit (s := S48) ![16] S16.size inb_S48_S16_16, y⟩, ⟨Rect.unit (s := S48) ![0] S16.size inb_S48_S16_0, x⟩]) = z := by
  set P : List (View.Piece (Elt F) S48 .f32) := [⟨Rect.unit (s := S48) ![32] S16.size inb_S48_S16_32, z⟩, ⟨Rect.unit (s := S48) ![16] S16.size inb_S48_S16_16, y⟩, ⟨Rect.unit (s := S48) ![0] S16.size inb_S48_S16_0, x⟩] with hP
  have key : ∀ p ∈ P, ∀ l : p.1.shape.Idx, sO.view.read (Elt F) (sO.view.writes (Elt F) fO P) (p.1.emb l) = p.2 l := by
    intro p hp l
    let G : S48.Idx → Elt F .f32 := fun i => if (i 0).val < 16 then x (lane (i 0).val) else if (i 0).val < 32 then y (lane (i 0).val) else z (lane (i 0).val)
    have hGx : ∀ (i : S48.Idx) (l : S16.Idx), (i 0).val = (l 0).val → G i = x l := fun i l e => by
      have hl : (l 0).val < 16 := (l 0).isLt
      show (if _ then _ else _) = _
      rw [if_pos (by omega), lane_of l _ (by omega)]
    have hGy : ∀ (i : S48.Idx) (l : S16.Idx), (i 0).val = 16 + (l 0).val → G i = y l := fun i l e => by
      have hl : (l 0).val < 16 := (l 0).isLt
      show (if _ then _ else if _ then _ else _) = _
      rw [if_neg (by omega), if_pos (by omega), lane_of l _ (by omega)]
    have hGz : ∀ (i : S48.Idx) (l : S16.Idx), (i 0).val = 32 + (l 0).val → G i = z l := fun i l e => by
      have hl : (l 0).val < 16 := (l 0).isLt
      show (if _ then _ else if _ then _ else _) = _
      rw [if_neg (by omega), if_neg (by omega), lane_of l _ (by omega)]
    have hG : ∀ p ∈ P, ∀ l : p.1.shape.Idx, p.2 l = G (p.1.emb l) := by
      intro p hp l
      simp only [hP, List.mem_cons, List.not_mem_nil, or_false] at hp
      rcases hp with rfl | rfl | rfl
      · have hl : (l 0).val < 16 := (l 0).isLt
        have e : (((Rect.unit (s := S48) ![32] S16.size inb_S48_S16_32).emb l) 0).val = 32 + 1 * (l 0).val := rfl
        exact (hGz _ l (e.trans (by omega))).symm
      · have hl : (l 0).val < 16 := (l 0).isLt
        have e : (((Rect.unit (s := S48) ![16] S16.size inb_S48_S16_16).emb l) 0).val = 16 + 1 * (l 0).val := rfl
        exact (hGy _ l (e.trans (by omega))).symm
      · have hl : (l 0).val < 16 := (l 0).isLt
        have e : (((Rect.unit (s := S48) ![0] S16.size inb_S48_S16_0).emb l) 0).val = 0 + 1 * (l 0).val := rfl
        exact (hGx _ l (e.trans (by omega))).symm
    rw [hG p hp l]
    exact View.read_writes_apply_of_pieces sO.view fO G P hG _ ⟨p, hp, by rw [← Rect.map_emb_univ]; exact Finset.mem_map_of_mem _ (Finset.mem_univ l)⟩
  exact ⟨funext fun l => key ⟨Rect.unit (s := S48) ![0] S16.size inb_S48_S16_0, x⟩ (by simp [hP]) l, funext fun l => key ⟨Rect.unit (s := S48) ![16] S16.size inb_S48_S16_16, y⟩ (by simp [hP]) l, funext fun l => key ⟨Rect.unit (s := S48) ![32] S16.size inb_S48_S16_32, z⟩ (by simp [hP]) l⟩

end Pieces

section Tile

variable (d : Dev nD) (L : grid0.Coords)

omit [FloatOps F] in
theorem sem_ne {a b : SemLoc sig} (h : a ≠ b) : ((V d (cV L) (jV L), a) : GSem nD τ sig) ≠ (V d (cV L) (jV L), b) :=
  fun e => h (Prod.mk.inj e).2
omit [FloatOps F] in
theorem buf_ne {a b : Ref sig .scVector} (h : a ≠ b) : (Proc.scVector (cV L) (jV L)).devRef a ≠ (Proc.scVector (cV L) (jV L)).devRef b :=
  fun e => h (Proc.devRef_injective _ e)

/-- The subcore's other semaphores and arrays. -/
def restSems : sProp 𝕄 := bigSep ((((((((ownCells (V d (cV L) (jV L))).erase ((V d (cV L) (jV L), SemLoc.dma cc0_scratch5.sem) : GSem nD τ sig)).erase ((V d (cV L) (jV L), SemLoc.dma cc0_scratch6.sem) : GSem nD τ sig)).erase ((V d (cV L) (jV L), SemLoc.dma cc0_scratch7.sem) : GSem nD τ sig)).erase ((V d (cV L) (jV L), SemLoc.dma cc0_scratch8.sem) : GSem nD τ sig)).erase ((V d (cV L) (jV L), SemLoc.dma cc0_scoped0.sem) : GSem nD τ sig)).erase ((V d (cV L) (jV L), SemLoc.dma cc0_scoped1.sem) : GSem nD τ sig)).erase ((V d (cV L) (jV L), SemLoc.dma cc0_scoped2.sem) : GSem nD τ sig)) fun g => semVal g 0
def restBufs : sProp 𝕄 := bigSep ((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)) fun b => iprop(∃ f, ((d, b) : Loc nD τ sig) ↦{fullShare} f)

theorem ownSems0_V :
    (ownSems0 (V d (cV L) (jV L)) : sProp 𝕄)
      = iprop(semVal ((V d (cV L) (jV L), SemLoc.dma cc0_scratch5.sem) : GSem nD τ sig) 0 ∗ semVal ((V d (cV L) (jV L), SemLoc.dma cc0_scratch6.sem) : GSem nD τ sig) 0 ∗ semVal ((V d (cV L) (jV L), SemLoc.dma cc0_scratch7.sem) : GSem nD τ sig) 0 ∗ semVal ((V d (cV L) (jV L), SemLoc.dma cc0_scratch8.sem) : GSem nD τ sig) 0 ∗ semVal ((V d (cV L) (jV L), SemLoc.dma cc0_scoped0.sem) : GSem nD τ sig) 0 ∗ semVal ((V d (cV L) (jV L), SemLoc.dma cc0_scoped1.sem) : GSem nD τ sig) 0 ∗ semVal ((V d (cV L) (jV L), SemLoc.dma cc0_scoped2.sem) : GSem nD τ sig) 0 ∗ restSems d L) := by
  unfold SparseCore.Cfg.ownSems0 restSems
  rw [SparseCore.bigSep_erase' ((mem_ownCells (g := ((V d (cV L) (jV L), SemLoc.dma cc0_scratch5.sem) : GSem nD τ sig))).mpr ⟨rfl, by show (SemLoc.dma cc0_scratch5.sem : SemLoc sig).isScoped .scVector = true; decide⟩),
    SparseCore.bigSep_erase' (Finset.mem_erase.mpr ⟨sem_ne d L (by decide), (mem_ownCells (g := ((V d (cV L) (jV L), SemLoc.dma cc0_scratch6.sem) : GSem nD τ sig))).mpr ⟨rfl, by show (SemLoc.dma cc0_scratch6.sem : SemLoc sig).isScoped .scVector = true; decide⟩⟩),
    SparseCore.bigSep_erase' (Finset.mem_erase.mpr ⟨sem_ne d L (by decide), Finset.mem_erase.mpr ⟨sem_ne d L (by decide), (mem_ownCells (g := ((V d (cV L) (jV L), SemLoc.dma cc0_scratch7.sem) : GSem nD τ sig))).mpr ⟨rfl, by show (SemLoc.dma cc0_scratch7.sem : SemLoc sig).isScoped .scVector = true; decide⟩⟩⟩),
    SparseCore.bigSep_erase' (Finset.mem_erase.mpr ⟨sem_ne d L (by decide), Finset.mem_erase.mpr ⟨sem_ne d L (by decide), Finset.mem_erase.mpr ⟨sem_ne d L (by decide), (mem_ownCells (g := ((V d (cV L) (jV L), SemLoc.dma cc0_scratch8.sem) : GSem nD τ sig))).mpr ⟨rfl, by show (SemLoc.dma cc0_scratch8.sem : SemLoc sig).isScoped .scVector = true; decide⟩⟩⟩⟩),
    SparseCore.bigSep_erase' (Finset.mem_erase.mpr ⟨sem_ne d L (by decide), Finset.mem_erase.mpr ⟨sem_ne d L (by decide), Finset.mem_erase.mpr ⟨sem_ne d L (by decide), Finset.mem_erase.mpr ⟨sem_ne d L (by decide), (mem_ownCells (g := ((V d (cV L) (jV L), SemLoc.dma cc0_scoped0.sem) : GSem nD τ sig))).mpr ⟨rfl, by show (SemLoc.dma cc0_scoped0.sem : SemLoc sig).isScoped .scVector = true; decide⟩⟩⟩⟩⟩),
    SparseCore.bigSep_erase' (Finset.mem_erase.mpr ⟨sem_ne d L (by decide), Finset.mem_erase.mpr ⟨sem_ne d L (by decide), Finset.mem_erase.mpr ⟨sem_ne d L (by decide), Finset.mem_erase.mpr ⟨sem_ne d L (by decide), Finset.mem_erase.mpr ⟨sem_ne d L (by decide), (mem_ownCells (g := ((V d (cV L) (jV L), SemLoc.dma cc0_scoped1.sem) : GSem nD τ sig))).mpr ⟨rfl, by show (SemLoc.dma cc0_scoped1.sem : SemLoc sig).isScoped .scVector = true; decide⟩⟩⟩⟩⟩⟩),
    SparseCore.bigSep_erase' (Finset.mem_erase.mpr ⟨sem_ne d L (by decide), Finset.mem_erase.mpr ⟨sem_ne d L (by decide), Finset.mem_erase.mpr ⟨sem_ne d L (by decide), Finset.mem_erase.mpr ⟨sem_ne d L (by decide), Finset.mem_erase.mpr ⟨sem_ne d L (by decide), Finset.mem_erase.mpr ⟨sem_ne d L (by decide), (mem_ownCells (g := ((V d (cV L) (jV L), SemLoc.dma cc0_scoped2.sem) : GSem nD τ sig))).mpr ⟨rfl, by show (SemLoc.dma cc0_scoped2.sem : SemLoc sig).isScoped .scVector = true; decide⟩⟩⟩⟩⟩⟩⟩)]

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f) ∗ restBufs d L) := by
  unfold SparseCore.Cfg.ownBufs restBufs
  refine (SparseCore.bigSep_erase' (SparseCore.Cfg.mem_ownRefs_of_owner (p := Proc.scVector (cV L) (jV L)) (b := ((Proc.scVector (cV L) (jV L)).devRef cc0_scratch0)) rfl)).trans ?_
  rw [SparseCore.bigSep_erase' (Finset.mem_erase.mpr ⟨buf_ne L (by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨buf_ne L (by decide), Finset.mem_erase.mpr ⟨buf_ne L (by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨buf_ne L (by decide), Finset.mem_erase.mpr ⟨buf_ne L (by decide), Finset.mem_erase.mpr ⟨buf_ne L (by decide), SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨buf_ne L (by decide), Finset.mem_erase.mpr ⟨buf_ne L (by decide), Finset.mem_erase.mpr ⟨buf_ne L (by decide), Finset.mem_erase.mpr ⟨buf_ne L (by decide), SparseCore.Cfg.mem_ownRefs_of_owner (p := Proc.scVector (cV L) (jV L)) (b := ((Proc.scVector (cV L) (jV L)).devRef cc0_scratch4)) rfl⟩⟩⟩⟩)]

omit [FloatOps F] in
theorem wr_sC (f : Buf (Elt F) ((V d (cV L) (jV L)).loc cc0_scratch0)) (v : Vec F S111x128 .f32) :
    (sC.view.loc (V d (cV L) (jV L)) ↦{fullShare} sC.view.write (Elt F) f v Finset.univ : sProp 𝕄) ⊢ (sC.view.loc (V d (cV L) (jV L)) ↦{fullShare} v : sProp 𝕄) :=
  Entails.of_eq (congrArg _ (View.write_whole_univ _ _ _))
omit [FloatOps F] in
theorem wr_sA (f : Buf (Elt F) ((V d (cV L) (jV L)).loc cc0_scratch1)) (v : Vec F S4x2x128 .f32) :
    (sA.view.loc (V d (cV L) (jV L)) ↦{fullShare} sA.view.write (Elt F) f v Finset.univ : sProp 𝕄) ⊢ (sA.view.loc (V d (cV L) (jV L)) ↦{fullShare} v : sProp 𝕄) :=
  Entails.of_eq (congrArg _ (View.write_whole_univ _ _ _))
omit [FloatOps F] in
theorem wr_sQ (f : Buf (Elt F) ((V d (cV L) (jV L)).loc cc0_scratch2)) (v : Vec F S128 .i32) :
    (sQ.view.loc (V d (cV L) (jV L)) ↦{fullShare} sQ.view.write (Elt F) f v Finset.univ : sProp 𝕄) ⊢ (sQ.view.loc (V d (cV L) (jV L)) ↦{fullShare} v : sProp 𝕄) :=
  Entails.of_eq (congrArg _ (View.write_whole_univ _ _ _))
omit [FloatOps F] in
theorem wr_sT (f : Buf (Elt F) ((V d (cV L) (jV L)).loc cc0_scratch3)) (v : Vec F S384 .i32) :
    (sT.view.loc (V d (cV L) (jV L)) ↦{fullShare} sT.view.write (Elt F) f v Finset.univ : sProp 𝕄) ⊢ (sT.view.loc (V d (cV L) (jV L)) ↦{fullShare} v : sProp 𝕄) :=
  Entails.of_eq (congrArg _ (View.write_whole_univ _ _ _))

/-- The columns of a trip's residues, and the first words of their types, are in range. -/
theorem col_lt (t : Fin k0_t1_loop.trips) (l : S16.Idx) : (colV lanes t l).toNat < 128 := by
  have h : ∀ (t : Fin k0_t1_loop.trips) (l : S16.Idx), (colV lanes t l).toNat = 16 * t.val + (l 0).val := by decide +kernel
  have ht : t.val < 8 := lt_of_lt_of_le t.isLt k0_t1_abs.2.1
  have hl : (l 0).val < 16 := (l 0).isLt
  rw [h]; omega

theorem row_le {Q : Vec F S128 .i32} (hQ : ∀ k, (qAt Q k).toNat < 20) (t : Fin k0_t1_loop.trips) (l : S16.Idx) : (rowV Q t l).toNat ≤ 304 := by
  have h := hQ (16 * t.val + (l 0).val)
  show (qAt Q (16 * t.val + (l 0).val) * 16#32).toNat ≤ 304
  rw [BitVec.toNat_mul]
  show (qAt Q (16 * t.val + (l 0).val)).toNat * 16 % 2 ^ 32 ≤ 304
  omega

omit [FloatOps F] in
theorem pts_sC (f : Buf (Elt F) ((V d (cV L) (jV L)).loc cc0_scratch0)) :
    ((V d (cV L) (jV L)).loc cc0_scratch0 ↦{fullShare} f : sProp 𝕄) ⊢ (sC.view.loc (V d (cV L) (jV L)) ↦{fullShare} f : sProp 𝕄) := Entails.of_eq rfl
omit [FloatOps F] in
theorem pts_sA (f : Buf (Elt F) ((V d (cV L) (jV L)).loc cc0_scratch1)) :
    ((V d (cV L) (jV L)).loc cc0_scratch1 ↦{fullShare} f : sProp 𝕄) ⊢ (sA.view.loc (V d (cV L) (jV L)) ↦{fullShare} f : sProp 𝕄) := Entails.of_eq rfl
omit [FloatOps F] in
theorem pts_sQ (f : Buf (Elt F) ((V d (cV L) (jV L)).loc cc0_scratch2)) :
    ((V d (cV L) (jV L)).loc cc0_scratch2 ↦{fullShare} f : sProp 𝕄) ⊢ (sQ.view.loc (V d (cV L) (jV L)) ↦{fullShare} f : sProp 𝕄) := Entails.of_eq rfl
omit [FloatOps F] in
theorem pts_sT (f : Buf (Elt F) ((V d (cV L) (jV L)).loc cc0_scratch3)) :
    ((V d (cV L) (jV L)).loc cc0_scratch3 ↦{fullShare} f : sProp 𝕄) ⊢ (sT.view.loc (V d (cV L) (jV L)) ↦{fullShare} f : sProp 𝕄) := Entails.of_eq rfl
omit [FloatOps F] in
theorem pts_sO (f : Buf (Elt F) ((V d (cV L) (jV L)).loc cc0_scratch4)) :
    ((V d (cV L) (jV L)).loc cc0_scratch4 ↦{fullShare} f : sProp 𝕄) ⊢ (sO.view.loc (V d (cV L) (jV L)) ↦{fullShare} f : sProp 𝕄) := Entails.of_eq rfl

variable (qv : Vec F S4x8x128 .i32) (av : Vec F S8x7x4x2x128 .f32) (cv : Vec F S111x4x8x128 .f32) (tb : Vec F S384 .i32)

/-- The shares of the arrays that the subcore reads. -/
abbrev reads (qs : PosShare TreeShare) : sProp 𝕄 :=
  iprop((qH.view.loc (V d (cV L) (jV L)) ↦{qs} qv) ∗ (aH.view.loc (V d (cV L) (jV L)) ↦{qs} av)
    ∗ (cH.view.loc (V d (cV L) (jV L)) ↦{qs} cv) ∗ (tH.view.loc (V d (cV L) (jV L)) ↦{qs} tb))
/-- Its pieces of the result. -/
abbrev outs (f : Vec F S3x512 .f32) : sProp 𝕄 :=
  iprop(((oSl0 L).view.loc (V d (cV L) (jV L)) ↦[(oSl0 L).view.set]{fullShare} f)
    ∗ ((oSl1 L).view.loc (V d (cV L) (jV L)) ↦[(oSl1 L).view.set]{fullShare} f)
    ∗ ((oSl2 L).view.loc (V d (cV L) (jV L)) ↦[(oSl2 L).view.set]{fullShare} f))

omit [FloatOps F] in
/-- A piece written whole with the words a whole result has there holds that result. -/
theorem out0 {f g : Vec F S3x512 .f32} {w : FVec F S16 .f32} (h : ∀ y, g ((oSl0 L).view.emb y) = w y) :
    ((oSl0 L).view.loc (V d (cV L) (jV L)) ↦[(oSl0 L).view.set]{fullShare} (oSl0 L).view.writes (Elt F) f [⟨Rect.whole S16, w⟩] : sProp 𝕄)
      ⊢ ((oSl0 L).view.loc (V d (cV L) (jV L)) ↦[(oSl0 L).view.set]{fullShare} g : sProp 𝕄) := by
  refine Entails.of_eq (pointsTo_congr fun i hi => ?_)
  obtain ⟨y, -, rfl⟩ := Finset.mem_map.mp hi
  rw [h]
  have e := View.read_writes_cons_emb (oSl0 L).view f (Rect.whole S16) w [] y
  rw [Rect.emb_whole_apply] at e
  exact e
omit [FloatOps F] in
theorem out1 {f g : Vec F S3x512 .f32} {w : FVec F S16 .f32} (h : ∀ y, g ((oSl1 L).view.emb y) = w y) :
    ((oSl1 L).view.loc (V d (cV L) (jV L)) ↦[(oSl1 L).view.set]{fullShare} (oSl1 L).view.writes (Elt F) f [⟨Rect.whole S16, w⟩] : sProp 𝕄)
      ⊢ ((oSl1 L).view.loc (V d (cV L) (jV L)) ↦[(oSl1 L).view.set]{fullShare} g : sProp 𝕄) := by
  refine Entails.of_eq (pointsTo_congr fun i hi => ?_)
  obtain ⟨y, -, rfl⟩ := Finset.mem_map.mp hi
  rw [h]
  have e := View.read_writes_cons_emb (oSl1 L).view f (Rect.whole S16) w [] y
  rw [Rect.emb_whole_apply] at e
  exact e
omit [FloatOps F] in
theorem out2 {f g : Vec F S3x512 .f32} {w : FVec F S16 .f32} (h : ∀ y, g ((oSl2 L).view.emb y) = w y) :
    ((oSl2 L).view.loc (V d (cV L) (jV L)) ↦[(oSl2 L).view.set]{fullShare} (oSl2 L).view.writes (Elt F) f [⟨Rect.whole S16, w⟩] : sProp 𝕄)
      ⊢ ((oSl2 L).view.loc (V d (cV L) (jV L)) ↦[(oSl2 L).view.set]{fullShare} g : sProp 𝕄) := by
  refine Entails.of_eq (pointsTo_congr fun i hi => ?_)
  obtain ⟨y, -, rfl⟩ := Finset.mem_map.mp hi
  rw [h]
  have e := View.read_writes_cons_emb (oSl2 L).view f (Rect.whole S16) w [] y
  rw [Rect.emb_whole_apply] at e
  exact e

/-- The loop's invariant: the sums so far, and the arrays as the copies in left them. -/
def inv (k : ℕ) (acc : FVec F S16 .f32 × FVec F S16 .f32 × FVec F S16 .f32) : sProp 𝕄 :=
  iprop(⌜acc = accAt L qv av cv tb k⌝ ∗ Hold (cT L cv) (aT L av) (qT L qv) tb d L)

theorem tile_body (hF : (K (F := F)).Facts) (hT : ∀ k, (tAt tb k).toNat ≤ 108) (hQ : ∀ k, (qAt (qT L qv) k).toNat < 20)
    (qs : PosShare TreeShare) (fo : Vec F S3x512 .f32) (O : CellTallies nD τ sig (HIx 1)) (W : Waits sig (HIx 1)) (hO : ∀ g, O g none = 0) :
    iprop(levAts (K (F := F)).L (K (F := F)).lev ∗ emp ∗ (reads d L qv av cv tb qs ∗ outs d L fo)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L qH (Memref.isWhole_whole _) aH (Memref.isWhole_whole _) cH (Memref.isWhole_whole _) tH (Memref.isWhole_whole _) oH (Memref.isWhole_whole _) sC (Memref.isWhole_whole _) sA (Memref.isWhole_whole _) sQ (Memref.isWhole_whole _) sT (Memref.isWhole_whole _) sO (Memref.isWhole_whole _) cc0_scratch5 cc0_scratch6 cc0_scratch7 cc0_scratch8 cc0_scoped0 cc0_scoped1 cc0_scoped2)
          fun _ => iprop((reads d L qv av cv tb qs ∗ outs d L (outF qv av cv tb)) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc0__sc_body_eq_skeleton]; unfold cc0__sc_body_skel
  rw [k0_part18_eq_skeleton]; unfold k0_part18_skel
  rw [k0_part16_eq_skeleton]; unfold k0_part16_skel
  rw [k0_part17_eq_skeleton]; unfold k0_part17_skel
  rw [(K (F := F)).scopedBufs_V hF d (cV L) (jV L), SparseCore.Cfg.scopedSems0_V (Val := Elt F) d (cV L) (jV L), ownSems0_V, ownBufs_V]
  iintro ⟨#Hlv, -, ⟨⟨Hq, Ha, Hc, Ht⟩, Ho0, Ho1, Ho2⟩, ⟨⟨%fC, HsC⟩, ⟨%fA, HsA⟩, ⟨%fQ, HsQ⟩, ⟨%fT, HsT⟩, ⟨%fO, HsO⟩, Hbufs⟩,
    ⟨HmC, HmA, HmQ, HmT, Hm0, Hm1, Hm2, Hsems⟩, HO⟩
  ihave Hmw := ((K (F := F)).mayWaits_none (thr := V d (cV L) (jV L)) hO) $$ Hlv
  ihave HsC := (pts_sC (F := F) d L _) $$ HsC
  ihave HsA := (pts_sA (F := F) d L _) $$ HsA
  ihave HsQ := (pts_sQ (F := F) d L _) $$ HsQ
  ihave HsT := (pts_sT (F := F) d L _) $$ HsT
  ihave HsO := (pts_sO (F := F) d L _) $$ HsO
  sl_exec
  ihave HsC := (wr_sC (F := F) d L _ _) $$ HsC
  ihave HsA := (wr_sA (F := F) d L _ _) $$ HsA
  ihave HsQ := (wr_sQ (F := F) d L _ _) $$ HsQ
  ihave HsT := (wr_sT (F := F) d L _ _) $$ HsT
  rw [bind_assoc, bind_assoc]
  sl_for (inv d L qv av cv tb) $$ [HsC HsA HsQ HsT]
  case region =>
    intro k acc
    obtain ⟨x, y, z⟩ := acc
    unfold inv
    iintro ⟨%hacc, HH⟩
    have htr := trip (C := cT L cv) (A := aT L av) (Q := qT L qv) (Tb := tb) (d := d) (L := L) lanes k (col_lt k) hT (row_le hQ k) x y z
    have htr' := htr fun acc => inv d L qv av cv tb (k.val + 1) acc
    unfold inv at htr'
    iapply htr'
    isplitl [HH]; · iexact HH
    iintro HH
    isplitr
    · ipureintro; rw [accAt_succ, ← hacc]
    · iexact HH
  · unfold inv
    isplitr; · ipureintro; rfl
    isplitl [HsC]; · iexact HsC
    isplitl [HsA]; · iexact HsA
    isplitl [HsQ]; · iexact HsQ
    iexact HsT
  iintro %acc HI
  unfold inv
  icases HI with ⟨%hacc, HsC, HsA, HsQ, HsT⟩
  sl_exec
  have e0 : ∀ y, outF qv av cv tb ((oSl0 L).view.emb y) = tile_body.sl.dma6 d L fO acc y := fun y => by
    rw [outF0]; subst hacc; exact (congrFun (stored (F := F)).1 y).symm
  have e1 : ∀ y, outF qv av cv tb ((oSl1 L).view.emb y) = tile_body.sl.dma6_1 d L fO acc y := fun y => by
    rw [outF1]; subst hacc; exact (congrFun (stored (F := F)).2.1 y).symm
  have e2 : ∀ y, outF qv av cv tb ((oSl2 L).view.emb y) = tile_body.sl.dma6_2 d L fO acc y := fun y => by
    rw [outF2]; subst hacc; exact (congrFun (stored (F := F)).2.2 y).symm
  ihave Ho0 := (out0 (F := F) d L e0) $$ Ho0
  ihave Ho1 := (out1 (F := F) d L e1) $$ Ho1
  ihave Ho2 := (out2 (F := F) d L e2) $$ Ho2
  sl_step
  isplitl [Hq Ha Hc Ht Ho0 Ho1 Ho2]
  · isplitl [Hq Ha Hc Ht]
    · isplitl [Hq]; · iexact Hq
      isplitl [Ha]; · iexact Ha
      isplitl [Hc]; · iexact Hc
      iexact Ht
    · isplitl [Ho0]; · iexact Ho0
      isplitl [Ho1]; · iexact Ho1
      iexact Ho2
  isplitl [HsC HsA HsQ HsT HsO Hbufs]
  · isplitl [HsC]; · iexists _; iexact HsC
    isplitl [HsA]; · iexists _; iexact HsA
    isplitl [HsQ]; · iexists _; iexact HsQ
    isplitl [HsT]; · iexists _; iexact HsT
    isplitl [HsO]; · iexists _; iexact HsO
    iexact Hbufs
  isplitl [HmC HmA HmQ HmT Hm0 Hm1 Hm2 Hsems]
  · isplitl [HmC]; · iexact HmC
    isplitl [HmA]; · iexact HmA
    isplitl [HmQ]; · iexact HmQ
    isplitl [HmT]; · iexact HmT
    isplitl [Hm0]; · iexact Hm0
    isplitl [Hm1]; · iexact Hm1
    isplitl [Hm2]; · iexact Hm2
    iexact Hsems
  iexists (insert (SemLoc.dma cc0_scoped2.sem, none) (insert (SemLoc.dma cc0_scoped1.sem, none) (insert (SemLoc.dma cc0_scoped0.sem, none) (insert (SemLoc.dma cc0_scratch8.sem, none) (insert (SemLoc.dma cc0_scratch7.sem, none) (insert (SemLoc.dma cc0_scratch6.sem, none) (insert (SemLoc.dma cc0_scratch5.sem, none) W)))))))
  isplitr
  · ipureintro
    intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    exact .inl hp
  · iexact HO

end Tile

end Cert.Proof.Tile

end
-- ==== Proof.Pieces.lean ====
/-
  What the whole program does around its thirty-two subcores: the TensorCore lays the arguments out as the subcores read
  them, deals each array among them as shares, and the result as pieces; then it takes all of it back, and sums.
-/
module

public import proofs.«01_k».proof.Proof.Tile
public import Idealize.ShloMosaic.Lib.Pipeline.Frame

@[expose] public section

noncomputable section

namespace Cert.Proof.Pieces

open Cert.KernelIdeal Cert.KernelIdeal.Gen
open Cert.Proof.Vals hiding sc
open Cert.Proof.Trip Cert.Proof.Tile

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.StableHlo (held seq after)
open Idealize.ShloMosaic.Pipeline (ucRefs)

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The TensorCore's two straight lines -/

section Lines

variable [FloatOps F]

/-- Before the call: the table, and the arguments laid out for the subcores. -/
def pre : List (HloOp τ sig (Elt F)) :=
  [StableHlo.nullary main_c (fun i => lit0 (S384.rowMajor i)),
   StableHlo.reshape main_arg0 main_v0 (rfl : (.i32 : EltTy) = .i32) shapeCasts_S8x512_S8x4x128,
   StableHlo.unary main_v0 main_v1 ((transpose S4x8x128 [1, 0, 2] · transposes_S8x4x128_S4x8x128_1_0_2) : (⟨S8x4x128, .i32⟩ : BufTy).Contents (Elt F) → (⟨S4x8x128, .i32⟩ : BufTy).Contents (Elt F)),
   StableHlo.unary main_arg1 main_v2 ((transpose S8x7x2x512 [0, 2, 3, 1] · transposes_S8x512x7x2_S8x7x2x512_0_2_3_1) : (⟨S8x512x7x2, .f32⟩ : BufTy).Contents (Elt F) → (⟨S8x7x2x512, .f32⟩ : BufTy).Contents (Elt F)),
   StableHlo.reshape main_v2 main_v3 (rfl : (.f32 : EltTy) = .f32) shapeCasts_S8x7x2x512_S8x7x2x4x128,
   StableHlo.unary main_v3 main_v4 ((transpose S8x7x4x2x128 [0, 1, 3, 2, 4] · transposes_S8x7x2x4x128_S8x7x4x2x128_0_1_3_2_4) : (⟨S8x7x2x4x128, .f32⟩ : BufTy).Contents (Elt F) → (⟨S8x7x4x2x128, .f32⟩ : BufTy).Contents (Elt F)),
   StableHlo.unary main_arg2 main_v5 ((transpose S37x3x8x512 [2, 3, 0, 1] · transposes_S8x512x37x3_S37x3x8x512_2_3_0_1) : (⟨S8x512x37x3, .f32⟩ : BufTy).Contents (Elt F) → (⟨S37x3x8x512, .f32⟩ : BufTy).Contents (Elt F)),
   StableHlo.reshape main_v5 main_v6 (rfl : (.f32 : EltTy) = .f32) shapeCasts_S37x3x8x512_S37x3x8x4x128,
   StableHlo.unary main_v6 main_v7 ((transpose S37x3x4x8x128 [0, 1, 3, 2, 4] · transposes_S37x3x8x4x128_S37x3x4x8x128_0_1_3_2_4) : (⟨S37x3x8x4x128, .f32⟩ : BufTy).Contents (Elt F) → (⟨S37x3x4x8x128, .f32⟩ : BufTy).Contents (Elt F)),
   StableHlo.reshape main_v7 main_v8 (rfl : (.f32 : EltTy) = .f32) shapeCasts_S37x3x4x8x128_S111x4x8x128]

/-- After it: the rows' sums, and the results from them. -/
def post : List (HloOp τ sig (Elt F)) :=
  [StableHlo.nullary main_cst (constant S_ .f32 0x00000000#32),
   StableHlo.binary main_v9 main_cst main_v10 ((fun x v => Host.reduceAdd x v reducesTo_S3x512_S3_d1 h_S_) : (⟨S3x512, .f32⟩ : BufTy).Contents (Elt F) → (⟨S_, .f32⟩ : BufTy).Contents (Elt F) → (⟨S3, .f32⟩ : BufTy).Contents (Elt F)),
   StableHlo.unary main_v10 main_v11 ((extractStridedSlice S1 ![0] · slices_S3_S1_0) : (⟨S3, .f32⟩ : BufTy).Contents (Elt F) → (⟨S1, .f32⟩ : BufTy).Contents (Elt F)),
   StableHlo.reshape main_v11 main_v12 (rfl : (.f32 : EltTy) = .f32) shapeCasts_S1_S_,
   StableHlo.unary main_v10 main_v13 ((extractStridedSlice S1 ![1] · slices_S3_S1_1) : (⟨S3, .f32⟩ : BufTy).Contents (Elt F) → (⟨S1, .f32⟩ : BufTy).Contents (Elt F)),
   StableHlo.reshape main_v13 main_v14 (rfl : (.f32 : EltTy) = .f32) shapeCasts_S1_S_,
   StableHlo.nullary main_cst_0 (constant S_ .f32 0x3F800000#32),
   StableHlo.binary main_v14 main_cst_0 main_v15 (maximumf : (⟨S_, .f32⟩ : BufTy).Contents (Elt F) → (⟨S_, .f32⟩ : BufTy).Contents (Elt F) → (⟨S_, .f32⟩ : BufTy).Contents (Elt F)),
   StableHlo.binary main_v12 main_v15 main_v16 (Host.divf : (⟨S_, .f32⟩ : BufTy).Contents (Elt F) → (⟨S_, .f32⟩ : BufTy).Contents (Elt F) → (⟨S_, .f32⟩ : BufTy).Contents (Elt F)),
   StableHlo.unary main_v10 main_v17 ((extractStridedSlice S1 ![2] · slices_S3_S1_2) : (⟨S3, .f32⟩ : BufTy).Contents (Elt F) → (⟨S1, .f32⟩ : BufTy).Contents (Elt F)),
   StableHlo.reshape main_v17 main_v18 (rfl : (.f32 : EltTy) = .f32) shapeCasts_S1_S_,
   StableHlo.nullary main_cst_1 (constant S_ .f32 0x38800000#32),
   StableHlo.binary main_v18 main_cst_1 main_v19 (mulf : (⟨S_, .f32⟩ : BufTy).Contents (Elt F) → (⟨S_, .f32⟩ : BufTy).Contents (Elt F) → (⟨S_, .f32⟩ : BufTy).Contents (Elt F))]

theorem main_eq (d : Dev nD) : (main (F := F) d) = (do seq pre; (sc (F := F)).run d 0; seq post >>= pure : Prog (TpuEff nD τ sig (Elt F) (SparseCore.Sig (ΛP (F := F)) 1) .tc) PUnit) := by
  simp only [main, pre, post, seq, bind_assoc, pure_bind, bind_pure]

theorem pre_sub : ∀ op ∈ (pre (F := F)), op.bufs ⊆ ucRefs τ sig := by
  intro op h
  refine Pipeline.sub_ucRefs op ?_
  simp only [pre, List.mem_cons, List.not_mem_nil, or_false] at h
  rcases h with rfl | rfl | rfl | rfl | rfl | rfl | rfl | rfl | rfl | rfl <;> simp
theorem post_sub : ∀ op ∈ (post (F := F)), op.bufs ⊆ ucRefs τ sig := by
  intro op h
  refine Pipeline.sub_ucRefs op ?_
  simp only [post, List.mem_cons, List.not_mem_nil, or_false] at h
  rcases h with rfl | rfl | rfl | rfl | rfl | rfl | rfl | rfl | rfl | rfl | rfl | rfl | rfl <;> simp
theorem pre_fresh : ∀ op ∈ (pre (F := F)), op.fresh = ∅ := by
  intro op h
  simp only [pre, List.mem_cons, List.not_mem_nil, or_false] at h
  rcases h with rfl | rfl | rfl | rfl | rfl | rfl | rfl | rfl | rfl | rfl <;> rfl
theorem post_fresh : ∀ op ∈ (post (F := F)), op.fresh = ∅ := by
  intro op h
  simp only [post, List.mem_cons, List.not_mem_nil, or_false] at h
  rcases h with rfl | rfl | rfl | rfl | rfl | rfl | rfl | rfl | rfl | rfl | rfl | rfl | rfl <;> rfl

end Lines

/-! ## What the arrays hold at the call -/

abbrev dr (b : Ref sig .tc) : DevRef τ sig := Proc.devRef .tc b

section Values

variable [FloatOps F]

/-- The residue types, the predicted angles, the coordinates and the table as the subcores read them. -/
def lQ (a0 : Vec F S8x512 .i32) : Vec F S4x8x128 .i32 := transpose S4x8x128 [1, 0, 2] (shapeCast S8x4x128 a0 shapeCasts_S8x512_S8x4x128) transposes_S8x4x128_S4x8x128_1_0_2
def lA (a1 : Vec F S8x512x7x2 .f32) : Vec F S8x7x4x2x128 .f32 :=
  transpose S8x7x4x2x128 [0, 1, 3, 2, 4] (shapeCast S8x7x2x4x128 (transpose S8x7x2x512 [0, 2, 3, 1] a1 transposes_S8x512x7x2_S8x7x2x512_0_2_3_1) shapeCasts_S8x7x2x512_S8x7x2x4x128)
    transposes_S8x7x2x4x128_S8x7x4x2x128_0_1_3_2_4
def lC (a2 : Vec F S8x512x37x3 .f32) : Vec F S111x4x8x128 .f32 :=
  shapeCast S111x4x8x128 (transpose S37x3x4x8x128 [0, 1, 3, 2, 4]
    (shapeCast S37x3x8x4x128 (transpose S37x3x8x512 [2, 3, 0, 1] a2 transposes_S8x512x37x3_S37x3x8x512_2_3_0_1) shapeCasts_S37x3x8x512_S37x3x8x4x128)
    transposes_S37x3x8x4x128_S37x3x4x8x128_0_1_3_2_4) shapeCasts_S37x3x4x8x128_S111x4x8x128
def lT : Vec F S384 .i32 := fun i => lit0 (S384.rowMajor i)

/-- The array of sums the subcores leave, from the arguments. -/
def sums (a0 : Vec F S8x512 .i32) (a1 : Vec F S8x512x7x2 .f32) (a2 : Vec F S8x512x37x3 .f32) : Vec F S3x512 .f32 :=
  outF (lQ a0) (lA a1) (lC a2) lT

/-- A row's sum. -/
def rows (g : Vec F S3x512 .f32) : Vec F S3 .f32 := Host.reduceAdd g (constant S_ .f32 0x00000000#32) reducesTo_S3x512_S3_d1 h_S_

/-- The two results, from the array of sums. -/
def res0 (g : Vec F S3x512 .f32) : Vec F S_ .f32 :=
  Host.divf (shapeCast S_ (extractStridedSlice S1 ![0] (rows g) slices_S3_S1_0) shapeCasts_S1_S_)
    (maximumf (shapeCast S_ (extractStridedSlice S1 ![1] (rows g) slices_S3_S1_1) shapeCasts_S1_S_) (constant S_ .f32 0x3F800000#32))
def res1 (g : Vec F S3x512 .f32) : Vec F S_ .f32 :=
  mulf (shapeCast S_ (extractStridedSlice S1 ![2] (rows g) slices_S3_S1_2) shapeCasts_S1_S_) (constant S_ .f32 0x38800000#32)

theorem pre_v1 (V : Valuation τ sig (Elt F)) : after pre V (dr main_v1) = lQ (V (dr main_arg0)) := by
  unfold pre; after_results_simp; rfl
theorem pre_v4 (V : Valuation τ sig (Elt F)) : after pre V (dr main_v4) = lA (V (dr main_arg1)) := by
  unfold pre; after_results_simp; rfl
theorem pre_v8 (V : Valuation τ sig (Elt F)) : after pre V (dr main_v8) = lC (V (dr main_arg2)) := by
  unfold pre; after_results_simp; rfl
theorem pre_c (V : Valuation τ sig (Elt F)) : after pre V (dr main_c) = lT (F := F) := by
  unfold pre; after_results_simp; rfl
theorem pre_v9 (V : Valuation τ sig (Elt F)) : after pre V (dr main_v9) = V (dr main_v9) := by
  unfold pre; after_results_simp
theorem pre_arg (V : Valuation τ sig (Elt F)) : after pre V (dr main_arg0) = V (dr main_arg0) ∧ after pre V (dr main_arg1) = V (dr main_arg1)
    ∧ after pre V (dr main_arg2) = V (dr main_arg2) ∧ after pre V (dr main_arg3) = V (dr main_arg3) := by
  unfold pre; refine ⟨?_, ?_, ?_, ?_⟩ <;> after_results_simp
theorem post_arg (V : Valuation τ sig (Elt F)) : after post V (dr main_arg0) = V (dr main_arg0) ∧ after post V (dr main_arg1) = V (dr main_arg1)
    ∧ after post V (dr main_arg2) = V (dr main_arg2) ∧ after post V (dr main_arg3) = V (dr main_arg3) := by
  unfold post; refine ⟨?_, ?_, ?_, ?_⟩ <;> after_results_simp
theorem post_v16 (V : Valuation τ sig (Elt F)) : after post V (dr main_v16) = res0 (V (dr main_v9)) := by
  unfold post; after_results_simp; rfl
theorem post_v19 (V : Valuation τ sig (Elt F)) : after post V (dr main_v19) = res1 (V (dr main_v9)) := by
  unfold post; after_results_simp; rfl

end Values

/-! ## The pieces and the shares -/

/-- The elements of the result that a subcore owns. -/
def oSet (L : grid0.Coords) : Finset S3x512.Idx := (oSl0 L).view.set ∪ ((oSl1 L).view.set ∪ (oSl2 L).view.set)

theorem col_of {L : grid0.Coords} {i : S3x512.Idx} (h : i ∈ oSet L) : tileOf i = L := by
  rcases Finset.mem_union.mp h with h | h
  · obtain ⟨y, -, rfl⟩ := Finset.mem_map.mp h
    exact tileOf_of L _ y (emb0 L y).2
  rcases Finset.mem_union.mp h with h | h
  · obtain ⟨y, -, rfl⟩ := Finset.mem_map.mp h
    exact tileOf_of L _ y (emb1 L y).2
  · obtain ⟨y, -, rfl⟩ := Finset.mem_map.mp h
    exact tileOf_of L _ y (emb2 L y).2

theorem row0 {L : grid0.Coords} {i : S3x512.Idx} (h : i ∈ (oSl0 L).view.set) : (i 0).val = 0 := by
  obtain ⟨y, -, rfl⟩ := Finset.mem_map.mp h
  exact (emb0 L y).1
theorem row1 {L : grid0.Coords} {i : S3x512.Idx} (h : i ∈ (oSl1 L).view.set) : (i 0).val = 1 := by
  obtain ⟨y, -, rfl⟩ := Finset.mem_map.mp h
  exact (emb1 L y).1
theorem row2 {L : grid0.Coords} {i : S3x512.Idx} (h : i ∈ (oSl2 L).view.set) : (i 0).val = 2 := by
  obtain ⟨y, -, rfl⟩ := Finset.mem_map.mp h
  exact (emb2 L y).1

theorem disj12 (L : grid0.Coords) : Disjoint (oSl1 L).view.set (oSl2 L).view.set :=
  Finset.disjoint_left.mpr fun _ h h' => by have := row1 h; have := row2 h'; omega
theorem disj0 (L : grid0.Coords) : Disjoint (oSl0 L).view.set ((oSl1 L).view.set ∪ (oSl2 L).view.set) :=
  Finset.disjoint_left.mpr fun _ h h' => by
    have := row0 h
    rcases Finset.mem_union.mp h' with h' | h'
    · have := row1 h'; omega
    · have := row2 h'; omega

/-- A subcore, by its two numbers. -/
abbrev tl (p : Fin 2 × Fin 16) : grid0.Coords := coordsV p.1 p.2

theorem tl_inj {p p' : Fin 2 × Fin 16} (h : tl p = tl p') : p = p' :=
  Prod.ext (congrFun h 0) (congrFun h 1)

theorem oSet_disjoint : ∀ p ∈ (Finset.univ : Finset (Fin 2 × Fin 16)), ∀ p' ∈ (Finset.univ : Finset (Fin 2 × Fin 16)), p ≠ p' → Disjoint (oSet (tl p)) (oSet (tl p')) :=
  fun _ _ _ _ hne => Finset.disjoint_left.mpr fun _ h h' => hne (tl_inj ((col_of h).symm.trans (col_of h')))

theorem oSet_cover : (Finset.univ : Finset (Fin 2 × Fin 16)).biUnion (fun p => oSet (tl p)) = Finset.univ := by
  refine Finset.eq_univ_iff_forall.mpr fun i => ?_
  have hc : (i 1).val < 512 := (i 1).isLt
  have hr : (i 0).val < 3 := (i 0).isLt
  have hm0 : (i 1).val / 16 % 2 < 2 := Nat.mod_lt _ (by decide)
  have hm1 : (i 1).val / 32 < 16 := by omega
  have hl : (i 1).val % 16 < 16 := Nat.mod_lt _ (by decide)
  set p : Fin 2 × Fin 16 := (⟨(i 1).val / 16 % 2, hm0⟩, ⟨(i 1).val / 32, hm1⟩) with hp
  set y : S16.Idx := lane (i 1).val with hy
  have hy0 : (y 0).val = (i 1).val % 16 := rfl
  have e1 : 32 * ((tl p) 1).val + 16 * ((tl p) 0).val + (y 0).val = (i 1).val := by
    rw [hy0]
    show 32 * ((i 1).val / 32) + 16 * ((i 1).val / 16 % 2) + (i 1).val % 16 = (i 1).val
    omega
  refine Finset.mem_biUnion.mpr ⟨p, Finset.mem_univ _, ?_⟩
  have ext2 : ∀ {j : S3x512.Idx}, (j 0).val = (i 0).val → (j 1).val = (i 1).val → j = i := fun h0 h1 => by
    funext a
    match a with
    | 0 => exact Fin.ext h0
    | 1 => exact Fin.ext h1
  have h012 : (i 0).val = 0 ∨ (i 0).val = 1 ∨ (i 0).val = 2 := by omega
  rcases h012 with h | h | h
  · refine Finset.mem_union_left _ (Finset.mem_map.mpr ⟨y, Finset.mem_univ _, ext2 ?_ ?_⟩)
    · exact (emb0 (tl p) y).1.trans h.symm
    · exact (emb0 (tl p) y).2.trans e1
  · refine Finset.mem_union_right _ (Finset.mem_union_left _ (Finset.mem_map.mpr ⟨y, Finset.mem_univ _, ext2 ?_ ?_⟩))
    · exact (emb1 (tl p) y).1.trans h.symm
    · exact (emb1 (tl p) y).2.trans e1
  · refine Finset.mem_union_right _ (Finset.mem_union_right _ (Finset.mem_map.mpr ⟨y, Finset.mem_univ _, ext2 ?_ ?_⟩))
    · exact (emb2 (tl p) y).1.trans h.symm
    · exact (emb2 (tl p) y).2.trans e1

section Pay

variable (d : Dev nD)

abbrev qLoc : Loc nD τ sig := (SparseCore.T d).loc main_v1
abbrev aLoc : Loc nD τ sig := (SparseCore.T d).loc main_v4
abbrev cLoc : Loc nD τ sig := (SparseCore.T d).loc main_v8
abbrev tLoc : Loc nD τ sig := (SparseCore.T d).loc main_c
abbrev oLoc : Loc nD τ sig := (SparseCore.T d).loc main_v9

/-- The pieces of the result, joined. -/
theorem outs_eq (f : Vec F S3x512 .f32) :
    (oLoc d ↦{fullShare} f : sProp 𝕄) = bigSep Finset.univ fun p : Fin 2 × Fin 16 => (outs d (tl p) f : sProp 𝕄) := by
  have h : (oLoc d ↦{fullShare} f : sProp 𝕄) = bigSep Finset.univ fun p : Fin 2 × Fin 16 => (oLoc d ↦[oSet (tl p)]{fullShare} f : sProp 𝕄) := by
    rw [← pointsTo_biUnion Finset.univ (ℓ := oLoc d) (fun p : Fin 2 × Fin 16 => oSet (tl p)) oSet_disjoint, oSet_cover]
  rw [h]
  refine bigSep_congr fun p _ => ?_
  have e0 : (oLoc d ↦[oSet (tl p)]{fullShare} f : sProp 𝕄) = _ := BI.Entails.antisymm (pointsTo_union (disj0 (tl p))).1 (pointsTo_union (disj0 (tl p))).2
  have e1 : (oLoc d ↦[(oSl1 (tl p)).view.set ∪ (oSl2 (tl p)).view.set]{fullShare} f : sProp 𝕄) = _ :=
    BI.Entails.antisymm (pointsTo_union (disj12 (tl p))).1 (pointsTo_union (disj12 (tl p))).2
  rw [e0, e1]

/-- A subcore's share of the arrays that all of them read. -/
def tok (p : Fin 2 × Fin 16) : PosShare TreeShare := shareTok fullShare (2 * 16) (finProdFinEquiv p)
abbrev rest0 : PosShare TreeShare := shareDrop fullShare (2 * 16)

/-- An array, dealt into the subcores' shares and a rest. -/
theorem toks_eq (ℓ : Loc nD τ sig) (f : Buf (Elt F) ℓ) :
    (ℓ ↦{fullShare} f : sProp 𝕄) = iprop((ℓ ↦{rest0} f) ∗ bigSep Finset.univ fun p : Fin 2 × Fin 16 => ℓ ↦{tok p} f) := by
  have h : (ℓ ↦{fullShare} f : sProp 𝕄) = _ :=
    BI.Entails.antisymm (Transfers.pointsTo_toks_split fullShare (2 * 16)) (Transfers.pointsTo_toks_join fullShare (2 * 16))
  rw [h, bigSep_univ_equiv finProdFinEquiv]
  rfl

/-- What a subcore is handed and hands back. -/
def part (qv : Vec F S4x8x128 .i32) (av : Vec F S8x7x4x2x128 .f32) (cv : Vec F S111x4x8x128 .f32) (tb : Vec F S384 .i32) (f : Vec F S3x512 .f32)
    (p : Fin 2 × Fin 16) : sProp 𝕄 :=
  iprop(reads d (tl p) qv av cv tb (tok p) ∗ outs d (tl p) f)

instance part_storable (qv : Vec F S4x8x128 .i32) (av : Vec F S8x7x4x2x128 .f32) (cv : Vec F S111x4x8x128 .f32) (tb : Vec F S384 .i32) (f : Vec F S3x512 .f32)
    (p : Fin 2 × Fin 16) : BI.Storable (upEmb : UEmb _ 𝕄) (part d qv av cv tb f p) := by
  unfold part; infer_instance

abbrev drops (qv : Vec F S4x8x128 .i32) (av : Vec F S8x7x4x2x128 .f32) (cv : Vec F S111x4x8x128 .f32) (tb : Vec F S384 .i32) : sProp 𝕄 :=
  iprop((qLoc d ↦{rest0} qv) ∗ (aLoc d ↦{rest0} av) ∗ (cLoc d ↦{rest0} cv) ∗ (tLoc d ↦{rest0} tb))

theorem part_eq (qv : Vec F S4x8x128 .i32) (av : Vec F S8x7x4x2x128 .f32) (cv : Vec F S111x4x8x128 .f32) (tb : Vec F S384 .i32) (f : Vec F S3x512 .f32) :
    (bigSep Finset.univ fun p => part d qv av cv tb f p : sProp 𝕄)
      = iprop(((bigSep Finset.univ fun p : Fin 2 × Fin 16 => qLoc d ↦{tok p} qv) ∗ (bigSep Finset.univ fun p : Fin 2 × Fin 16 => aLoc d ↦{tok p} av)
          ∗ (bigSep Finset.univ fun p : Fin 2 × Fin 16 => cLoc d ↦{tok p} cv) ∗ bigSep Finset.univ fun p : Fin 2 × Fin 16 => tLoc d ↦{tok p} tb)
        ∗ oLoc d ↦{fullShare} f) := by
  rw [outs_eq, ← bigSep_sep', ← bigSep_sep', ← bigSep_sep', ← bigSep_sep']
  rfl

theorem parts_eq (qv : Vec F S4x8x128 .i32) (av : Vec F S8x7x4x2x128 .f32) (cv : Vec F S111x4x8x128 .f32) (tb : Vec F S384 .i32) (f : Vec F S3x512 .f32) :
    (iprop((qLoc d ↦{fullShare} qv) ∗ (aLoc d ↦{fullShare} av) ∗ (cLoc d ↦{fullShare} cv) ∗ (tLoc d ↦{fullShare} tb) ∗ oLoc d ↦{fullShare} f) : sProp 𝕄)
      = iprop((bigSep Finset.univ fun p => part d qv av cv tb f p) ∗ drops d qv av cv tb) := by
  rw [toks_eq (qLoc d), toks_eq (aLoc d), toks_eq (cLoc d), toks_eq (tLoc d), part_eq]
  have h (A A' B B' C C' D D' E : sProp 𝕄) :
      iprop((A ∗ A') ∗ (B ∗ B') ∗ (C ∗ C') ∗ (D ∗ D') ∗ E) ⊢ iprop(((A' ∗ B' ∗ C' ∗ D') ∗ E) ∗ A ∗ B ∗ C ∗ D) := by
    iintro ⟨⟨Hq0, Hq⟩, ⟨Ha0, Ha⟩, ⟨Hc0, Hc⟩, ⟨Ht0, Ht⟩, Ho⟩
    isplitl [Hq Ha Hc Ht Ho]
    · isplitl [Hq Ha Hc Ht]
      · isplitl [Hq]; · iexact Hq
        isplitl [Ha]; · iexact Ha
        isplitl [Hc]; · iexact Hc
        iexact Ht
      · iexact Ho
    isplitl [Hq0]; · iexact Hq0
    isplitl [Ha0]; · iexact Ha0
    isplitl [Hc0]; · iexact Hc0
    iexact Ht0
  have h' (A A' B B' C C' D D' E : sProp 𝕄) :
      iprop(((A' ∗ B' ∗ C' ∗ D') ∗ E) ∗ A ∗ B ∗ C ∗ D) ⊢ iprop((A ∗ A') ∗ (B ∗ B') ∗ (C ∗ C') ∗ (D ∗ D') ∗ E) := by
    iintro ⟨⟨⟨Hq, Ha, Hc, Ht⟩, Ho⟩, Hq0, Ha0, Hc0, Ht0⟩
    isplitl [Hq Hq0]
    · isplitl [Hq0]; · iexact Hq0
      iexact Hq
    isplitl [Ha Ha0]
    · isplitl [Ha0]; · iexact Ha0
      iexact Ha
    isplitl [Hc Hc0]
    · isplitl [Hc0]; · iexact Hc0
      iexact Hc
    isplitl [Ht Ht0]
    · isplitl [Ht0]; · iexact Ht0
      iexact Ht
    iexact Ho
  exact BI.Entails.antisymm (h _ _ _ _ _ _ _ _ _) (h' _ _ _ _ _ _ _ _ _)

/-- The arrays of the call. -/
abbrev S5 : Finset (DevRef τ sig) := {dr main_v1, dr main_v4, dr main_v8, dr main_c, dr main_v9}

theorem S5_sub : S5 ⊆ ucRefs τ sig := by decide

theorem held_S5 (W : Valuation τ sig (Elt F)) :
    (held (d.tc : Thread nD τ) S5 W : sProp 𝕄) = iprop((qLoc d ↦{fullShare} W (dr main_v1)) ∗ (aLoc d ↦{fullShare} W (dr main_v4))
      ∗ (cLoc d ↦{fullShare} W (dr main_v8)) ∗ (tLoc d ↦{fullShare} W (dr main_c)) ∗ oLoc d ↦{fullShare} W (dr main_v9)) := by
  unfold held S5
  rw [SparseCore.bigSep_insert' (by decide), SparseCore.bigSep_insert' (by decide), SparseCore.bigSep_insert' (by decide), SparseCore.bigSep_insert' (by decide), bigSep_singleton]

theorem held_parts (W : Valuation τ sig (Elt F)) :
    (held (d.tc : Thread nD τ) (ucRefs τ sig) W : sProp 𝕄)
      = iprop(((bigSep Finset.univ fun p => part d (W (dr main_v1)) (W (dr main_v4)) (W (dr main_v8)) (W (dr main_c)) (W (dr main_v9)) p)
          ∗ drops d (W (dr main_v1)) (W (dr main_v4)) (W (dr main_v8)) (W (dr main_c))) ∗ held (d.tc : Thread nD τ) (ucRefs τ sig \ S5) W) := by
  rw [StableHlo.held_sub_split _ S5_sub, held_S5, parts_eq]

end Pay

end Cert.Proof.Pieces

end
-- ==== Proof.Launch.lean ====
/-
  The whole program's run: what the launch hands the TensorCore, the call's thirty-two subcores and what they hand back.
  `run_main` says what memory holds at the end, at any float semantics: the arguments as they were and the two results as
  functions of them.
-/
module

public import proofs.«01_k».proof.Proof.Pieces

@[expose] public section

noncomputable section

namespace Cert.Proof.Launch

open Cert.KernelIdeal Cert.KernelIdeal.Gen
open Cert.Proof.Vals hiding sc
open Cert.Proof.Trip Cert.Proof.Tile Cert.Proof.Pieces

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.StableHlo (held seq after)
open Idealize.ShloMosaic.Pipeline (ucRefs)

variable {F : FTy → Type}

local notation "𝕄" => MT nD τ sig (HIx 1) (Elt F) ℕ UU ℕ

/-! ## The call's payloads -/

section Proto

variable [FloatOps F] (m : (ℓ : Loc nD τ sig) → Buf (Elt F) ℓ) (ρ : Dev nD → PrngReg)

abbrev arg0 (d : Dev nD) : Vec F S8x512 .i32 := m ((SparseCore.T d).loc main_arg0)
abbrev arg1 (d : Dev nD) : Vec F S8x512x7x2 .f32 := m ((SparseCore.T d).loc main_arg1)
abbrev arg2 (d : Dev nD) : Vec F S8x512x37x3 .f32 := m ((SparseCore.T d).loc main_arg2)
abbrev oIn (d : Dev nD) : Vec F S3x512 .f32 := m (oLoc d)
abbrev oOut (d : Dev nD) : Vec F S3x512 .f32 := sums (arg0 m d) (arg1 m d) (arg2 m d)

/-- What the proof asks of the launch memory: every residue type is below twenty. -/
def PreOK : Prop := ∀ d j, (arg0 m d j).toNat < 20

def goP (d : Dev nD) (p : Fin 2 × Fin 16) : sProp 𝕄 := part d (lQ (arg0 m d)) (lA (arg1 m d)) (lC (arg2 m d)) lT (oIn m d) p
def tdP (d : Dev nD) (p : Fin 2 × Fin 16) : sProp 𝕄 := part d (lQ (arg0 m d)) (lA (arg1 m d)) (lC (arg2 m d)) lT (oOut m d) p

instance goP_storable (d : Dev nD) (p : Fin 2 × Fin 16) : BI.Storable (upEmb : UEmb _ 𝕄) (goP m d p) := part_storable _ _ _ _ _ _ _
instance tdP_storable (d : Dev nD) (p : Fin 2 × Fin 16) : BI.Storable (upEmb : UEmb _ 𝕄) (tdP m d p) := part_storable _ _ _ _ _ _ _

/-- A subcore, by its numbers. -/
abbrev num (c i : ℕ) : Fin 2 × Fin 16 := (Fin.ofNat 2 c, Fin.ofNat 16 i)

/-- What a SparseCore is handed for its subcores and hands back. -/
def goC (d : Dev nD) (c : ℕ) : sProp 𝕄 := bigSep Finset.univ fun i : Fin 16 => goP m d (num c i.val)
def tdC (d : Dev nD) (c : ℕ) : sProp 𝕄 := bigSep Finset.univ fun i : Fin 16 => tdP m d (num c i.val)

instance goC_storable (d : Dev nD) (c : ℕ) : BI.Storable (upEmb : UEmb _ 𝕄) (goC m d c) := by unfold goC; infer_instance
instance tdC_storable (d : Dev nD) (c : ℕ) : BI.Storable (upEmb : UEmb _ 𝕄) (tdC m d c) := by unfold tdC; infer_instance

def P : (K (F := F)).Pay (nD := nD) (Val := Elt F) (Name := ℕ) (U := UU) where
  st := fun _ d c => goC m d c.val
  dn := fun _ d c => tdC m d c.val
  go := fun _ d c i => goP m d (num c.val i.val)
  td := fun _ d c i => tdP m d (num c.val i.val)
  x := fun _ _ => iprop(emp)

instance P_storable : (P (F := F) m).IsStorable where
  st _ d c := by unfold P; infer_instance
  dn _ d c := by unfold P; infer_instance
  go _ d c i := by unfold P; infer_instance
  td _ d c i := by unfold P; infer_instance

theorem vecSplit : (K (F := F)).VecSplit' (P m) 0 := by
  intro d c
  show goC m d c.val ⊢ |={Set.univ}=> iprop(
      (bigSep (Finset.univ : Finset (Fin 16)) fun i => goP m d (num c.val i.val))
      ∗ ((bigSep (Finset.univ : Finset (Fin 16)) fun i => tdP m d (num c.val i.val)) -∗ tdC m d c.val))
  unfold goC tdC
  iintro H; imodintro
  isplitl [H]; · iexact H
  iintro H; iexact H

theorem num_eq (c : Fin 2) (i : Fin 16) : num c.val i.val = (c, i) := Prod.ext (Fin.ofNat_val_eq_self c) (Fin.ofNat_val_eq_self i)

theorem goC_eq (d : Dev nD) : (bigSep (Finset.univ : Finset (Fin 2)) fun c => goC m d c.val) = bigSep Finset.univ fun p => goP m d p := by
  rw [bigSep_univ_prod]
  exact bigSep_congr fun c _ => bigSep_congr fun i _ => congrArg (goP m d) (num_eq c i)
theorem tdC_eq (d : Dev nD) : (bigSep (Finset.univ : Finset (Fin 2)) fun c => tdC m d c.val) = bigSep Finset.univ fun p => tdP m d p := by
  rw [bigSep_univ_prod]
  exact bigSep_congr fun c _ => bigSep_congr fun i _ => congrArg (tdP m d) (num_eq c i)

theorem st0_eq (d : Dev nD) : (bigSep Finset.univ fun c : Fin ((K (F := F)).nCore 0) => (P m).st 0 d c) = bigSep Finset.univ fun p => goP m d p := by
  show (bigSep (Finset.univ : Finset (Fin 2)) fun c => goC m d c.val) = _
  exact goC_eq m d
theorem dn0_eq (d : Dev nD) : (bigSep Finset.univ fun c : Fin ((K (F := F)).nCore 0) => (P m).dn 0 d c) = bigSep Finset.univ fun p => tdP m d p := by
  show (bigSep (Finset.univ : Finset (Fin 2)) fun c => tdC m d c.val) = _
  exact tdC_eq m d

/-! ## A subcore's task -/

theorem defs₀_vector (c : Fin τ.nSC) (s : Fin τ.nSub) :
    defs₀ (F := F) (.scVector c s) 0 ()
      = SparseCore.onTile hcore0 hsub0 (fun c s => cc0__sc_body (coordsV c s) qH (Memref.isWhole_whole _) aH (Memref.isWhole_whole _) cH (Memref.isWhole_whole _) tH (Memref.isWhole_whole _) oH (Memref.isWhole_whole _)
          sC (Memref.isWhole_whole _) sA (Memref.isWhole_whole _) sQ (Memref.isWhole_whole _) sT (Memref.isWhole_whole _) sO (Memref.isWhole_whole _)
          cc0_scratch5 cc0_scratch6 cc0_scratch7 cc0_scratch8 cc0_scoped0 cc0_scoped1 cc0_scoped2) ⟨⟩ c s := rfl

theorem lit_le : ∀ i : Fin 384, (lit0 i).toNat ≤ 108 := by decide +kernel

theorem tab_ok (k : ℕ) : (tAt (F := F) lT k).toNat ≤ 108 := by
  unfold tAt; split
  · exact lit_le _
  · exact Nat.zero_le _

theorem types_ok (hpre : PreOK m) (d : Dev nD) (L : grid0.Coords) (k : ℕ) : (qAt (F := F) (qT L (lQ (arg0 m d))) k).toNat < 20 := by
  unfold qAt; split
  · exact hpre d _
  · exact Nat.zero_lt_succ _

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have e : tl (num c.val i.val) = coordsV ⟨_, hc.1⟩ ⟨_, hc.2⟩ := congrArg tl (num_eq ⟨_, hc.1⟩ ⟨_, hc.2⟩)
  have eg : (P (F := F) m).go 0 d c i = iprop(reads d (coordsV ⟨_, hc.1⟩ ⟨_, hc.2⟩) (lQ (arg0 m d)) (lA (arg1 m d)) (lC (arg2 m d)) lT (tok (num c.val i.val))
      ∗ outs d (coordsV ⟨_, hc.1⟩ ⟨_, hc.2⟩) (oIn m d)) := by
    show part d _ _ _ _ _ (num c.val i.val) = _
    unfold part; rw [e]
  have et : (P (F := F) m).td 0 d c i = iprop(reads d (coordsV ⟨_, hc.1⟩ ⟨_, hc.2⟩) (lQ (arg0 m d)) (lA (arg1 m d)) (lC (arg2 m d)) lT (tok (num c.val i.val))
      ∗ outs d (coordsV ⟨_, hc.1⟩ ⟨_, hc.2⟩) (oOut m d)) := by
    show part d _ _ _ _ _ (num c.val i.val) = _
    unfold part; rw [e]
  rw [eg, et]
  exact (tile_body (F := F) d (coordsV ⟨_, hc.1⟩ ⟨_, hc.2⟩) (lQ (arg0 m d)) (lA (arg1 m d)) (lC (arg2 m d)) lT facts tab_ok (types_ok m hpre d _)
    (tok (num c.val i.val)) (oIn m d) O W hO).trans (wp_mono frame _ _ fun _ => obl_post)

/-! ## The launch element: the handshakes' rounds; nothing of the kernel's own -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The TensorCore -/

/-- Its memory at the launch, at the call, and after it. -/
def V0 (d : Dev nD) : Valuation τ sig (Elt F) := fun b => m (d, b)
def V1 (d : Dev nD) : Valuation τ sig (Elt F) := after pre (V0 m d)
def V2 (d : Dev nD) : Valuation τ sig (Elt F) := Function.update (V1 m d) (dr main_v9) (oOut m d)
def V3 (d : Dev nD) : Valuation τ sig (Elt F) := after post (V2 m d)

theorem V2_ne (d : Dev nD) {b : DevRef τ sig} (h : b ≠ dr main_v9) : V2 m d b = V1 m d b := Function.update_of_ne h _ _
theorem V2_v9 (d : Dev nD) : V2 m d (dr main_v9) = oOut m d := Function.update_self _ _ _

theorem at_call (d : Dev nD) :
    (held (d.tc : Thread nD τ) (ucRefs τ sig) (V1 m d) : sProp 𝕄)
      = iprop(((bigSep Finset.univ fun p => goP m d p) ∗ drops d (lQ (arg0 m d)) (lA (arg1 m d)) (lC (arg2 m d)) lT)
          ∗ held (d.tc : Thread nD τ) (ucRefs τ sig \ S5) (V1 m d)) := by
  rw [held_parts]
  have e1 : V1 m d (dr main_v1) = lQ (arg0 m d) := pre_v1 _
  have e2 : V1 m d (dr main_v4) = lA (arg1 m d) := pre_v4 _
  have e3 : V1 m d (dr main_v8) = lC (arg2 m d) := pre_v8 _
  have e4 : V1 m d (dr main_c) = lT := pre_c _
  have e5 : V1 m d (dr main_v9) = oIn m d := pre_v9 _
  rw [e1, e2, e3, e4, e5]
  rfl

theorem after_call (d : Dev nD) :
    (held (d.tc : Thread nD τ) (ucRefs τ sig) (V2 m d) : sProp 𝕄)
      = iprop(((bigSep Finset.univ fun p => tdP m d p) ∗ drops d (lQ (arg0 m d)) (lA (arg1 m d)) (lC (arg2 m d)) lT)
          ∗ held (d.tc : Thread nD τ) (ucRefs τ sig \ S5) (V1 m d)) := by
  rw [held_parts]
  have e1 : V2 m d (dr main_v1) = lQ (arg0 m d) := (V2_ne m d (by decide)).trans (pre_v1 _)
  have e2 : V2 m d (dr main_v4) = lA (arg1 m d) := (V2_ne m d (by decide)).trans (pre_v4 _)
  have e3 : V2 m d (dr main_v8) = lC (arg2 m d) := (V2_ne m d (by decide)).trans (pre_v8 _)
  have e4 : V2 m d (dr main_c) = lT := (V2_ne m d (by decide)).trans (pre_c _)
  have e6 : (held (d.tc : Thread nD τ) (ucRefs τ sig \ S5) (V2 m d) : sProp 𝕄) = held (d.tc : Thread nD τ) (ucRefs τ sig \ S5) (V1 m d) :=
    StableHlo.held_congr _ fun b hb => V2_ne m d fun e => (Finset.mem_sdiff.mp hb).2 (e ▸ by decide)
  rw [e1, e2, e3, e4, V2_v9, e6]
  rfl

abbrev FIN (d : Dev nD) : sProp 𝕄 := held (d.tc : Thread nD τ) (ucRefs τ sig) (V3 m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (d.tc : Thread nD τ) (ucRefs τ sig) (V0 m d) from
    Pipeline.unscopedBufs_held d (V0 m d), main_eq]
  iintro ⟨#Hctx, Hst, ⟨Hb, Hheld, Hts, -⟩, -⟩
  iapply (StableHlo.wp_seq 𝒱 none Set.univ d (ucRefs τ sig) _ pre pre_sub pre_fresh (V0 m d)) $$ [Hb Hheld]
  · isplitl [Hb] <;> iassumption
  iintro ⟨Hb, Hheld⟩
  ihave Hheld := (show held (d.tc : Thread nD τ) (ucRefs τ sig) (after pre (V0 m d)) ⊢ (held (d.tc : Thread nD τ) (ucRefs τ sig) (V1 m d) : sProp 𝕄) from .rfl) $$ Hheld
  ihave H := (Entails.of_eq (at_call (F := F) m d)) $$ Hheld
  icases H with ⟨⟨Hgo, Hdrop⟩, Hrest⟩
  rw [wp_bind]
  iapply ((K (F := F)).wp_run (D (F := F)) 𝒱 (EH := EH) (P := P m) κ d 0) $$ [Hst Hgo Hb Hdrop Hrest Hts]
  isplitr; · iexact Hctx
  isplitl [Hst]; · iexact Hst
  isplitl [Hgo]
  · rw [st0_eq]; iexact Hgo
  iintro ⟨Hst, Hdn⟩
  ihave Hdn := (Entails.of_eq (dn0_eq m d)) $$ Hdn
  ihave Hheld := (Entails.of_eq (after_call (F := F) m d).symm) $$ [Hdn Hdrop Hrest]
  · isplitl [Hdn Hdrop]
    · isplitl [Hdn] <;> iassumption
    iexact Hrest
  iapply (StableHlo.wp_seq 𝒱 none Set.univ d (ucRefs τ sig) _ post post_sub post_fresh (V2 m d)) $$ [Hb Hheld]
  · isplitl [Hb] <;> iassumption
  iintro ⟨Hb, Hheld⟩
  rw [wp_pure]; imodintro
  isplitl [Hst]; · iexact Hst
  isplitl [Hheld]; · iexact Hheld
  isplitl [Hb] <;> iassumption

def fq (d : Dev nD) (s' : Phys nD τ sig (Elt F)) : Prop := ∀ b : ucRefs τ sig, s'.mem.mem (d, b.1) = V3 m d b.1

theorem hfin (d : Dev nD) (s' : Phys nD τ sig (Elt F)) : iprop(FIN m d ∗ SI s') ⊢ (⌜fq m d s'⌝ : sProp 𝕄) := by
  refine BIBase.Entails.trans ?_ (pure_forall (φ := fun b : ucRefs τ sig => s'.mem.mem (d, b.1) = V3 m d b.1)).2
  refine forall_intro fun b => ?_
  iintro ⟨H, HSI⟩
  have e : FIN m d ⊢ (((d, b.1) : Loc nD τ sig) ↦{fullShare} V3 m d b.1 : sProp 𝕄) :=
    bigSep_elim (Φ := fun b : DevRef τ sig => (((d, b) : Loc nD τ sig) ↦{fullShare} V3 m d b : sProp 𝕄)) b.2
  ihave Hb := e $$ H
  ihave H := (SI_pointsTo_agree (st := s') (ℓ := (d, b.1)) (I := Finset.univ) (q := fullShare) (f := V3 m d b.1)) $$ [HSI Hb]
  · isplitl [HSI] <;> iassumption
  icases H with %h1
  ipureintro; exact funext fun i => h1 i (Finset.mem_univ i)

/-! ## The run -/

/-- At the end: the arguments as they were, the results as functions of them, every semaphore at zero. -/
def QC : PUnit × MemSt nD τ sig (Elt F) → Prop := fun r =>
  (∀ c : Dev nD, (r.2.mem ((SparseCore.T c).loc main_arg0) = m ((SparseCore.T c).loc main_arg0)
      ∧ r.2.mem ((SparseCore.T c).loc main_arg1) = m ((SparseCore.T c).loc main_arg1)
      ∧ r.2.mem ((SparseCore.T c).loc main_arg2) = m ((SparseCore.T c).loc main_arg2)
      ∧ r.2.mem ((SparseCore.T c).loc main_arg3) = m ((SparseCore.T c).loc main_arg3))
    ∧ r.2.mem ((SparseCore.T c).loc main_v16) = res0 (oOut m c) ∧ r.2.mem ((SparseCore.T c).loc main_v19) = res1 (oOut m c))
  ∧ r.2.sem = fun _ => 0

theorem of_fq {s' : Phys nD τ sig (Elt F)} (h : ∀ d, fq m d s') (hz : s'.mem.sem = fun _ => 0) : QC m (⟨⟩, s'.mem) := by
  refine ⟨fun c => ?_, hz⟩
  have g : ∀ b : Ref sig .tc, dr b ∈ ucRefs τ sig → s'.mem.mem ((SparseCore.T c).loc b) = V3 m c (dr b) := fun b hb => h c ⟨dr b, hb⟩
  have a := post_arg (V2 m c)
  have p := pre_arg (V0 m c)
  refine ⟨⟨?_, ?_, ?_, ?_⟩, ?_, ?_⟩
  · exact (g main_arg0 (by decide)).trans (a.1.trans ((V2_ne m c (by decide)).trans p.1))
  · exact (g main_arg1 (by decide)).trans (a.2.1.trans ((V2_ne m c (by decide)).trans p.2.1))
  · exact (g main_arg2 (by decide)).trans (a.2.2.1.trans ((V2_ne m c (by decide)).trans p.2.2.1))
  · exact (g main_arg3 (by decide)).trans (a.2.2.2.trans ((V2_ne m c (by decide)).trans p.2.2.2))
  · exact (g main_v16 (by decide)).trans ((post_v16 (V2 m c)).trans (congrArg res0 (V2_v9 m c)))
  · exact (g main_v19 (by decide)).trans ((post_v19 (V2 m c)).trans (congrArg res1 (V2_v9 m c)))

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => of_fq m h hz)

end Proto

end Cert.Proof.Launch

end
-- ==== Proof.Frames.lean ====
/-
  What the two preconditions give, and the claims that the programs run and leave their arguments unchanged.
-/
module

public import proofs.«01_k».proof.Proof.Launch
public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Gen.Pre_types_in_range
public import proofs.«01_k».proof.Proof.Gen.Pre_inputs_ok
public import Idealize.ShloMosaic.Lib.ReduceAll

@[expose] public section

noncomputable section

namespace Cert.Proof.Frames

open Cert.Proof.Launch
open Idealize.ShloMosaic Idealize.SL.Sem

/-! ## The preconditions, read -/

theorem andi_ofBool (p q : Bool) : IntOp.andi (BitVec.ofBool p) (BitVec.ofBool q) = BitVec.ofBool (p && q) := by
  cases p <;> cases q <;> decide
theorem ofBool_eq_one (p : Bool) : (BitVec.ofBool p = 1#1) ↔ p = true := by cases p <;> decide
theorem andi_one {p q : BitVec 1} (h : IntOp.andi p q = 1#1) : p = 1#1 ∧ q = 1#1 := by
  revert h; revert p q; decide

/-- A word that is at least zero and below twenty, as a signed word. -/
theorem type_key (v : BitVec 32) (e : IntOp.andi (IntOp.cmpi .sge v 0#32) (IntOp.cmpi .slt v 20#32) = 1#1) : v.toNat < 20 := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

theorem types_of {F : FTy → Type} [FloatOps F] {a0 : IVec Cert.Pre_types_in_range.S8x512 32} {a1 a2 a3}
    (h : Cert.Pre_types_in_range.fn (F := F) a0 a1 a2 a3 = fun _ => 1#1) (j) : (a0 j).toNat < 20 := by
  have e := congrFun h j
  simp only [Cert.Pre_types_in_range.fn, andi, cmpi, broadcastInDim, constantI] at e
  exact type_key _ e

theorem inf_bits : Ideal.ofBits .f32 0x7F800000#32 = ⊤ := by
  simp [Ideal.ofBits, Ideal.ieee]

/-- The stronger precondition: the types in range, the predicted angles finite, the mask all ones. -/
theorem inputs_of {a0 : IVec Cert.Pre_inputs_ok.S8x512 32} {a1 : FVec Ideal Cert.Pre_inputs_ok.S8x512x7x2 .f32} {a2}
    {a3 : IVec Cert.Pre_inputs_ok.S8x512x37 1}
    (h : Cert.Pre_inputs_ok.fn (F := Ideal) a0 a1 a2 a3 = fun _ => 1#1) :
    (∀ j, (a0 j).toNat < 20) ∧ (∀ j, max (a1 j : EReal) (-(a1 j : EReal)) < ⊤) ∧ ∀ j, a3 j = 1#1 := by
  have e := congrFun h (fun a => a.elim0)
  simp only [Cert.Pre_inputs_ok.fn] at e
  obtain ⟨e1, e3⟩ := andi_one e
  obtain ⟨e1, e2⟩ := andi_one e1
  haveI : Subsingleton Cert.Pre_inputs_ok.S_.Idx := ⟨fun _ _ => funext fun a => a.elim0⟩
  refine ⟨fun j => ?_, fun j => ?_, fun j => ?_⟩
  · have h1 := Host.reduce_andi_all _ _ _ _ _ e1 j
    simp only [andi, cmpi, broadcastInDim, constantI] at h1
    exact type_key _ h1
  · have h2 := Host.reduce_andi_all _ _ _ _ _ e2 j
    have h3 : Ideal.cmp .olt (max (a1 j : EReal) (-(a1 j : EReal))) (Ideal.ofBits .f32 0x7F800000#32) = 1#1 := h2
    rw [inf_bits, Ideal.cmp, ofBool_eq_one] at h3
    exact of_decide_eq_true h3
  · exact Host.reduce_andi_all _ _ _ _ _ e3 j

/-! ## The frames -/

theorem frame_k : Cert.quiescent_Kernel := fun m ρ hpre =>
  (θ_run Cert.KernelIdeal.defs _ _).mono (fun _ h => ⟨fun c => (h.1 c).1, h.2⟩)
    (run_main (F := Bits) m ρ fun d j => types_of (hpre d) j)
theorem frame_ki : Cert.quiescent_KernelIdeal := fun m ρ hpre =>
  (θ_run Cert.KernelIdeal.defs _ _).mono (fun _ h => ⟨fun c => (h.1 c).1, h.2⟩)
    (run_main (F := Ideal) m ρ fun d j => types_of (hpre d) j)
theorem frame_ki' : Cert.quiescent_KernelIdeal_pre_inputs_ok := fun m ρ hpre =>
  (θ_run Cert.KernelIdeal.defs _ _).mono (fun _ h => ⟨fun c => (h.1 c).1, h.2⟩)
    (run_main (F := Ideal) m ρ fun d j => (inputs_of (hpre d)).1 j)
theorem frame_ri : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)
theorem frame_ri' : Cert.quiescent_ReferenceIdeal_pre_inputs_ok := fun m ρ _ => frame_ri m ρ trivial

end Cert.Proof.Frames

end
-- ==== Proof.KLooks.lean ====
/-
  What a subcore's copies hold, in the arrays the host was given: residue `128 * s + n` of sequence `b`, where the subcore's
  number is `8 * s + b`.
-/
module

public import proofs.«01_k».proof.Proof.Pieces
public import Idealize.ShloMosaic.Lib.Pointwise

@[expose] public section

set_option maxRecDepth 8192

noncomputable section

namespace Cert.Proof.KLooks

open Cert.KernelIdeal Cert.KernelIdeal.Gen
open Cert.Proof.Vals hiding sc
open Cert.Proof.Trip Cert.Proof.Tile Cert.Proof.Pieces
open Idealize.ShloMosaic

variable {F : FTy → Type} [FloatOps F]

/-! ## The arrays as the host lays them out -/

/-- Residue `x` of quarter `s` of the sequence. -/
abbrev res (s : Fin 4) (x : Fin 128) : Fin 512 := ⟨s.val * 128 + x.val, by omega⟩
abbrev row (k : Fin 37) (c : Fin 3) : Fin 111 := ⟨3 * k.val + c.val, by omega⟩

theorem lQ_at (a0 : Vec F S8x512 .i32) (s : Fin 4) (b : Fin 8) (x : Fin 128) : lQ a0 (ix3 s b x) = a0 (ix2 b (res s x)) := by
  unfold lQ
  pointwise
theorem lA_at (a1 : Vec F S8x512x7x2 .f32) (b : Fin 8) (j : Fin 7) (s : Fin 4) (i : Fin 2) (x : Fin 128) :
    lA a1 (ix5 b j s i x) = a1 (ix4 b (res s x) j i) := by
  unfold lA
  pointwise
theorem lC_at (a2 : Vec F S8x512x37x3 .f32) (k : Fin 37) (c : Fin 3) (s : Fin 4) (b : Fin 8) (x : Fin 128) :
    lC a2 (ix4 (row k c) s b x) = a2 (ix4 b (res s x) k c) := by
  unfold lC
  pointwise
  have hk : (⟨(3 * k.val + c.val) / 3, by omega⟩ : Fin 37) = k := Fin.ext (by show (3 * k.val + c.val) / 3 = k.val; omega)
  have hc : (⟨(3 * k.val + c.val) % 3, by omega⟩ : Fin 3) = c := Fin.ext (by show (3 * k.val + c.val) % 3 = c.val; omega)
  rw [hk, hc]

/-! ## A subcore's copies -/

variable (L : grid0.Coords)

/-- The subcore's quarter, and its sequence. -/
def quarter : Fin 4 := ⟨(2 * (L 1).val + (L 0).val) / 8, by have h0 : (L 0).val < 2 := (L 0).isLt; have h1 : (L 1).val < 16 := (L 1).isLt; omega⟩
def batch : Fin 8 := ⟨(2 * (L 1).val + (L 0).val) % 8, by omega⟩

theorem off1 : ∀ L : grid0.Coords, k0_off1 L = ![0, (quarter L).val, (batch L).val, 0] := by decide +kernel
theorem off2 : ∀ L : grid0.Coords, k0_off2 L = ![(batch L).val, 3, (quarter L).val, 0, 0] := by decide +kernel
theorem off3 : ∀ L : grid0.Coords, k0_off3 L = ![(quarter L).val, (batch L).val, 0] := by decide +kernel

theorem unsqC (r : Fin 111) (x : Fin 128) (a : Fin 4) :
    ((Shape.reshapeEquiv squeezes_S111x1x1x128_S111x128.numel_eq (ix2 r x)) a).val = (ix4 r (0 : Fin 1) (0 : Fin 1) x a).val := by
  have h : S111x1x1x128.ShapeCasts S111x128 := squeezes_S111x1x1x128_S111x128.numel_eq
  show shapeCast S111x128 (fun i : S111x1x1x128.Idx => (i a).val) h (ix2 r x) = _
  pointwise
theorem unsqA (j : Fin 4) (i : Fin 2) (x : Fin 128) (a : Fin 5) :
    ((Shape.reshapeEquiv squeezes_S1x4x1x2x128_S4x2x128.numel_eq (ix3 j i x)) a).val = (ix5 (0 : Fin 1) j (0 : Fin 1) i x a).val := by
  have h : S1x4x1x2x128.ShapeCasts S4x2x128 := squeezes_S1x4x1x2x128_S4x2x128.numel_eq
  show shapeCast S4x2x128 (fun i : S1x4x1x2x128.Idx => (i a).val) h (ix3 j i x) = _
  pointwise
theorem unsqQ (x : Fin 128) (a : Fin 3) :
    ((Shape.reshapeEquiv squeezes_S1x1x128_S128.numel_eq (ix1 x)) a).val = (ix3 (0 : Fin 1) (0 : Fin 1) x a).val := by
  have h : S1x1x128.ShapeCasts S128 := squeezes_S1x1x128_S128.numel_eq
  show shapeCast S128 (fun i : S1x1x128.Idx => (i a).val) h (ix1 x) = _
  pointwise

theorem cT_at (cv : Vec F S111x4x8x128 .f32) (r : Fin 111) (x : Fin 128) : cT L cv (ix2 r x) = cv (ix4 r (quarter L) (batch L) x) := by
  have e : ∀ a, ((cSl L).view.emb (ix2 r x) a).val = (ix4 r (quarter L) (batch L) x a).val := by
    intro a
    have h : ((cSl L).view.emb (ix2 r x) a).val = k0_off1 L a + 1 * ((Shape.reshapeEquiv squeezes_S111x1x1x128_S111x128.numel_eq (ix2 r x)) a).val := rfl
    rw [h, unsqC, off1, one_mul]
    match a with
    | 0 => exact Nat.zero_add _
    | 1 => exact Nat.add_zero _
    | 2 => exact Nat.add_zero _
    | 3 => exact Nat.zero_add _
  exact congrArg cv (funext fun a => Fin.ext (e a))
theorem aT_at (av : Vec F S8x7x4x2x128 .f32) (j : Fin 4) (i : Fin 2) (x : Fin 128) :
    aT L av (ix3 j i x) = av (ix5 (batch L) (⟨j.val + 3, by omega⟩ : Fin 7) (quarter L) i x) := by
  have e : ∀ a, ((aSl L).view.emb (ix3 j i x) a).val = (ix5 (batch L) (⟨j.val + 3, by omega⟩ : Fin 7) (quarter L) i x a).val := by
    intro a
    have h : ((aSl L).view.emb (ix3 j i x) a).val = k0_off2 L a + 1 * ((Shape.reshapeEquiv squeezes_S1x4x1x2x128_S4x2x128.numel_eq (ix3 j i x)) a).val := rfl
    rw [h, unsqA, off2, one_mul]
    match a with
    | 0 => exact Nat.add_zero _
    | 1 => exact Nat.add_comm _ _
    | 2 => exact Nat.add_zero _
    | 3 => exact Nat.zero_add _
    | 4 => exact Nat.zero_add _
  exact congrArg av (funext fun a => Fin.ext (e a))
theorem qT_at (qv : Vec F S4x8x128 .i32) (x : Fin 128) : qT L qv (ix1 x) = qv (ix3 (quarter L) (batch L) x) := by
  have e : ∀ a, ((qSl L).view.emb (ix1 x) a).val = (ix3 (quarter L) (batch L) x a).val := by
    intro a
    have h : ((qSl L).view.emb (ix1 x) a).val = k0_off3 L a + 1 * ((Shape.reshapeEquiv squeezes_S1x1x128_S128.numel_eq (ix1 x)) a).val := rfl
    rw [h, unsqQ, off3, one_mul]
    match a with
    | 0 => exact Nat.add_zero _
    | 1 => exact Nat.add_zero _
    | 2 => exact Nat.zero_add _
  exact congrArg qv (funext fun a => Fin.ext (e a))

end Cert.Proof.KLooks

end
-- ==== Proof.Reals.lean ====
/-
  The laws of the extended reals that the value claim rests on: dividing by a root is multiplying by its inverse, a root
  times itself is the number, and a positive finite number times its inverse root is its root.
-/
module

public import proofs.«01_k».proof.Proof.Vals
public import Idealize.ShloMosaic.PureOps.Ideal
public import Idealize.ShloMosaic.PureOps.IdealRules
public import Idealize.ShloMosaic.Lib.IdealHost
public import Idealize.ShloMosaic.Lib.Pointwise

@[expose] public section

noncomputable section

namespace Cert.Proof.Reals

open Idealize.ShloMosaic

theorem sq_nonneg (x : EReal) : 0 ≤ x * x := by
  induction x using EReal.rec with
  | bot => rw [EReal.bot_mul_bot]; exact le_top
  | coe r => rw [← EReal.coe_mul]; exact_mod_cast mul_self_nonneg r
  | top => rw [EReal.top_mul_top]; exact le_top

theorem eps_val : ∃ r : ℝ, 0 < r ∧ (Ideal.ofBits .f32 0x322BCC77#32 : EReal) = (r : EReal) := by
  refine ⟨_, ?_, by simp [Ideal.ofBits, Ideal.ieee]; rfl⟩
  norm_num

theorem eps_pos : (0 : EReal) < Ideal.ofBits .f32 0x322BCC77#32 := by
  obtain ⟨r, h, e⟩ := eps_val; rw [e]; exact_mod_cast h

/-- A sum of something not negative and of the constant is positive. -/
theorem pos_add {x : EReal} (h : 0 ≤ x) : 0 < x + Ideal.ofBits .f32 0x322BCC77#32 :=
  lt_of_lt_of_le eps_pos (le_add_of_nonneg_left h)
theorem pos_add' {x : EReal} (h : 0 ≤ x) : 0 < Ideal.ofBits .f32 0x322BCC77#32 + x :=
  lt_of_lt_of_le eps_pos (le_add_of_nonneg_right h)

theorem div_sqrt (a : EReal) {x : EReal} (h : 0 < x) : Ideal.div a (Ideal.sqrt x) = a * Ideal.rsqrt x := by
  induction x using EReal.rec with
  | bot => exact absurd h (by simp)
  | coe r =>
    have hr : (0 : ℝ) < r := by exact_mod_cast h
    have hs : Real.sqrt r ≠ 0 := (Real.sqrt_pos.mpr hr).ne'
    have e1 : Ideal.sqrt ((r : ℝ) : EReal) = ((Real.sqrt r : ℝ) : EReal) := if_neg (not_lt.mpr hr.le)
    have e2 : Ideal.rsqrt ((r : ℝ) : EReal) = (((Real.sqrt r)⁻¹ : ℝ) : EReal) := by
      show (if r < 0 then (⊥ : EReal) else if r = 0 then ⊤ else (((Real.sqrt r)⁻¹ : ℝ) : EReal)) = _
      rw [if_neg (not_lt.mpr hr.le), if_neg hr.ne']
    rw [e1, e2, Ideal.div, if_neg (by exact_mod_cast hs), EReal.coe_inv]
  | top =>
    show Ideal.div a ⊤ = a * 0
    rw [Ideal.div, if_neg (by simp), EReal.inv_top]

theorem sqrt_sq {x : EReal} (h : 0 ≤ x) : Ideal.sqrt x * Ideal.sqrt x = x := by
  induction x using EReal.rec with
  | bot => exact absurd h (by simp)
  | coe r =>
    have hr : (0 : ℝ) ≤ r := by exact_mod_cast h
    have e1 : Ideal.sqrt ((r : ℝ) : EReal) = ((Real.sqrt r : ℝ) : EReal) := if_neg (not_lt.mpr hr)
    rw [e1, ← EReal.coe_mul, Real.mul_self_sqrt hr]
  | top => exact EReal.top_mul_top

theorem mul_rsqrt {x : EReal} (h : 0 < x) (ht : x ≠ ⊤) : x * Ideal.rsqrt x = Ideal.sqrt x := by
  induction x using EReal.rec with
  | bot => exact absurd h (by simp)
  | coe r =>
    have hr : (0 : ℝ) < r := by exact_mod_cast h
    have hs : Real.sqrt r ≠ 0 := (Real.sqrt_pos.mpr hr).ne'
    have e1 : Ideal.sqrt ((r : ℝ) : EReal) = ((Real.sqrt r : ℝ) : EReal) := if_neg (not_lt.mpr hr.le)
    have e2 : Ideal.rsqrt ((r : ℝ) : EReal) = (((Real.sqrt r)⁻¹ : ℝ) : EReal) := by
      show (if r < 0 then (⊥ : EReal) else if r = 0 then ⊤ else (((Real.sqrt r)⁻¹ : ℝ) : EReal)) = _
      rw [if_neg (not_lt.mpr hr.le), if_neg hr.ne']
    rw [e1, e2, ← EReal.coe_mul]
    congr 1
    rw [mul_inv_eq_iff_eq_mul₀ hs, Real.mul_self_sqrt hr.le]
  | top => exact absurd rfl ht

/-- The constants of the two means: one is the inverse of the other. -/
theorem div_count (x : EReal) : Ideal.div x (Ideal.ofBits .f32 0x46800000#32) = x * Ideal.ofBits .f32 0x38800000#32 := by
  have e1 : Ideal.ofBits .f32 0x46800000#32 = ((16384 : ℝ) : EReal) := by simp [Ideal.ofBits, Ideal.ieee]; rw [← EReal.coe_mul]; norm_num
  have e2 : Ideal.ofBits .f32 0x38800000#32 = (((16384 : ℝ)⁻¹ : ℝ) : EReal) := by simp [Ideal.ofBits, Ideal.ieee]; rw [← EReal.coe_mul]; norm_num
  rw [e1, e2, Ideal.div, if_neg (by norm_num), EReal.coe_inv]

/-- The square of a finite number is finite, and so is the square length of a pair of them. -/
theorem norm_ne_top {x y : EReal} (hx : max x (-x) < ⊤) (hy : max y (-y) < ⊤) :
    (Ideal.ofBits .f32 0x322BCC77#32 + x * x) + y * y ≠ ⊤ := by
  obtain ⟨r, _, e⟩ := eps_val
  induction x using EReal.rec with
  | bot => simp at hx
  | top => simp at hx
  | coe a =>
    induction y using EReal.rec with
    | bot => simp at hy
    | top => simp at hy
    | coe b =>
      rw [e, ← EReal.coe_mul, ← EReal.coe_mul, ← EReal.coe_add, ← EReal.coe_add]
      exact EReal.coe_ne_top _

theorem sub_neg' (x y : EReal) : x - -y = x + y := by rw [sub_eq_add_neg, neg_neg]

end Cert.Proof.Reals

end
-- ==== Proof.RefReads.lean ====
/-
  The reference's arrays, read at one residue and one of its four torsion angles.
-/
module

public import proofs.«01_k».proof.Proof.Reals
public import proofs.«01_k».proof.Proof.Gen.ReferenceIdeal
public import proofs.«01_k».proof.Proof.Gen.ReferenceIdeal.Run

@[expose] public section

set_option maxRecDepth 8192

noncomputable section

namespace Cert.Proof.RefReads

open Cert.ReferenceIdeal Cert.ReferenceIdeal.Gen Cert.ReferenceIdeal.Value
open Idealize.ShloMosaic

/-! ## The four lookups by index arrays -/

theorem add_l {a b c x : ℕ} (ha : a = x) (hb : b = 0) (hc : c = 0) : a + b + c = x := by omega
theorem add_m {a b c x : ℕ} (ha : a = 0) (hb : b = x) (hc : c = 0) : a + b + c = x := by omega
theorem add_r {a b c x : ℕ} (ha : a = 0) (hb : b = 0) (hc : c = x) : a + b + c = x := by omega

section Gathers

variable {α : Type}

theorem gather_atoms (x : S21x4x4.Idx → α) (idx : IVec S8x512x1 32) (b : Fin 8) (n : Fin 512) (j k : Fin 4) :
    Host.gather gather_S21x4x4_S8x512x1_S8x512x4x4_23_0_n_n_0_2_144 x idx (ix4 b n j k)
      = x (ix3 (⟨min (idx (ix3 b n 0)).toInt.toNat 20, by omega⟩ : Fin 21) j k) := by
  unfold Host.gather; congr 1; funext a; refine Fin.ext ?_
  match a with
  | ⟨0, _⟩ =>
    refine add_l ?_ rfl rfl
    refine (dif_pos (List.mem_singleton.mpr rfl)).trans (congrArg (fun i => min (idx i).toInt.toNat 20) (funext fun e => Fin.ext ?_))
    match e with
    | ⟨0, _⟩ => rfl
    | ⟨1, _⟩ => rfl
    | ⟨2, _⟩ => rfl
  | ⟨1, _⟩ => exact add_r rfl rfl rfl
  | ⟨2, _⟩ => exact add_r rfl rfl rfl

theorem gather_type (x : S21x4.Idx → α) (idx : IVec S8x512x1 32) (b : Fin 8) (n : Fin 512) (j : Fin 4) :
    Host.gather gather_S21x4_S8x512x1_S8x512x4_2_0_n_n_0_2_14 x idx (ix3 b n j)
      = x (ix2 (⟨min (idx (ix3 b n 0)).toInt.toNat 20, by omega⟩ : Fin 21) j) := by
  unfold Host.gather; congr 1; funext a; refine Fin.ext ?_
  match a with
  | ⟨0, _⟩ =>
    refine add_l ?_ rfl rfl
    refine (dif_pos (List.mem_singleton.mpr rfl)).trans (congrArg (fun i => min (idx i).toInt.toNat 20) (funext fun e => Fin.ext ?_))
    match e with
    | ⟨0, _⟩ => rfl
    | ⟨1, _⟩ => rfl
    | ⟨2, _⟩ => rfl
  | ⟨1, _⟩ => exact add_r rfl rfl rfl

theorem gather_coords (x : S8x512x4x37x3.Idx → α) (idx : IVec S8x512x4x4x3x1 32) (b : Fin 8) (n : Fin 512) (j k : Fin 4) (c : Fin 3) :
    Host.gather gather_S8x512x4x37x3_S8x512x4x4x3x1_S8x512x4x4x3_n_3_0124_0124_3_5_11111 x idx (ix5 b n j k c)
      = x (ix5 b n j (⟨min (idx (ix6 b n j k c 0)).toInt.toNat 36, by omega⟩ : Fin 37) c) := by
  unfold Host.gather; congr 1; funext a; refine Fin.ext ?_
  match a with
  | ⟨0, _⟩ => exact add_m rfl rfl rfl
  | ⟨1, _⟩ => exact add_m rfl rfl rfl
  | ⟨2, _⟩ => exact add_m rfl rfl rfl
  | ⟨3, _⟩ =>
    refine add_l ?_ rfl rfl
    refine (dif_pos (List.mem_singleton.mpr rfl)).trans (congrArg (fun i => min (idx i).toInt.toNat 36) (funext fun e => Fin.ext ?_))
    match e with
    | ⟨0, _⟩ => rfl
    | ⟨1, _⟩ => rfl
    | ⟨2, _⟩ => rfl
    | ⟨3, _⟩ => rfl
    | ⟨4, _⟩ => rfl
    | ⟨5, _⟩ => rfl
  | ⟨4, _⟩ => exact add_m rfl rfl rfl

theorem gather_mask (x : S8x512x4x37.Idx → α) (idx : IVec S8x512x4x4x1 32) (b : Fin 8) (n : Fin 512) (j k : Fin 4) :
    Host.gather gather_S8x512x4x37_S8x512x4x4x1_S8x512x4x4_n_3_012_012_3_4_1111 x idx (ix4 b n j k)
      = x (ix4 b n j (⟨min (idx (ix5 b n j k 0)).toInt.toNat 36, by omega⟩ : Fin 37)) := by
  unfold Host.gather; congr 1; funext a; refine Fin.ext ?_
  match a with
  | ⟨0, _⟩ => exact add_m rfl rfl rfl
  | ⟨1, _⟩ => exact add_m rfl rfl rfl
  | ⟨2, _⟩ => exact add_m rfl rfl rfl
  | ⟨3, _⟩ =>
    refine add_l ?_ rfl rfl
    refine (dif_pos (List.mem_singleton.mpr rfl)).trans (congrArg (fun i => min (idx i).toInt.toNat 36) (funext fun e => Fin.ext ?_))
    match e with
    | ⟨0, _⟩ => rfl
    | ⟨1, _⟩ => rfl
    | ⟨2, _⟩ => rfl
    | ⟨3, _⟩ => rfl
    | ⟨4, _⟩ => rfl

end Gathers

/-! ## The residue's atoms -/

/-- jax's wrap of an index leaves an index that is not negative. -/
theorem wrap {x y : BitVec 32} (h : x.toNat < 2 ^ 31) : Scalar.select (IntOp.cmpi .slt x 0#32) y x = x := by
  have e : IntOp.cmpi .slt x 0#32 = 0#1 := by
    simp only [IntOp.cmpi, BitVec.slt_eq_decide, BitVec.toInt_eq_toNat_cond, BitVec.toNat_ofNat, Nat.reducePow, Nat.zero_mod]
    rw [decide_eq_false (by omega)]; rfl
  rw [e]; rfl
theorem toInt_small {x : BitVec 32} (h : x.toNat < 2 ^ 31) : x.toInt.toNat = x.toNat := by
  rw [BitVec.toInt_eq_toNat_cond, if_pos (by omega)]; rfl

theorem lit0_le : ∀ i : Fin 336, (lit0 i).toNat ≤ 36 := by decide +kernel

/-- The word that the table gives for an atom: residue type, torsion angle, which of its four atoms. -/
def atomW (s : ℕ) (j k : Fin 4) : BitVec 32 := lit0 (Fin.ofNat 336 (16 * s + 4 * j.val + k.val))
theorem atomW_le (s : ℕ) (j k : Fin 4) : (atomW s j k).toNat ≤ 36 := lit0_le _
def atomF (s : ℕ) (j k : Fin 4) : Fin 37 := ⟨(atomW s j k).toNat, by have := atomW_le s j k; omega⟩

section Reads

variable (V0 : Valuation τ sig (Elt Ideal))

abbrev A0 : IVec S8x512 32 := V0 (Proc.devRef .tc main_arg0)
abbrev A1 : FVec Ideal S8x512x7x2 .f32 := V0 (Proc.devRef .tc main_arg1)
abbrev A2 : FVec Ideal S8x512x37x3 .f32 := V0 (Proc.devRef .tc main_arg2)
abbrev A3 : IVec S8x512x37 1 := V0 (Proc.devRef .tc main_arg3)

variable (h0 : ∀ j, (A0 V0 j).toNat < 20) (b : Fin 8) (n : Fin 512) (j k : Fin 4) (c : Fin 3)

/-- The residue's type. -/
def typ : ℕ := (A0 V0 (ix2 b n)).toNat

include h0 in
/-- The index array of the two tables by type, at a residue. -/
theorem typeIdx_at : min ((broadcastInDim S8x512x1 ![0, 1] bcast_S8x512_S8x512x1_0_1 (select (cmpi .slt (V0 (Proc.devRef .tc main_arg0)) (broadcastInDim S8x512 ![] bcast_S_S8x512 (constantI S_ 32 0#32))) (addi (V0 (Proc.devRef .tc main_arg0)) (broadcastInDim S8x512 ![] bcast_S_S8x512 (constantI S_ 32 21#32))) (V0 (Proc.devRef .tc main_arg0))) : IVec S8x512x1 32) (ix3 b n 0)).toInt.toNat 20 = typ V0 b n := by
  have hs : (V0 (Proc.devRef .tc main_arg0) (ix2 b n)).toNat < 20 := h0 (ix2 b n)
  pointwise
  rw [wrap (by omega), toInt_small (by omega)]
  exact min_eq_left (by omega)

include h0 in
theorem v6_at : res_main_v6 V0 (ix4 b n j k) = atomW (typ V0 b n) j k := by
  have hs := h0 (ix2 b n)
  unfold res_main_v6
  rw [gather_atoms]
  show lit0 _ = lit0 _
  congr 1
  refine Fin.ext ?_
  rw [rowMajor_val3 _ 16 4 rfl rfl]
  show min _ 20 * 16 + j.val * 4 + k.val = (16 * typ V0 b n + 4 * j.val + k.val) % 336
  rw [typeIdx_at V0 h0]
  have : typ V0 b n < 20 := hs
  omega

include h0 in
theorem v10_at : res_main_v10 V0 (ix5 b n j k c) = atomW (typ V0 b n) j k := by
  unfold res_main_v10
  pointwise
  exact v6_at V0 h0 b n j k

include h0 in
theorem call0_at (z : Fin 1) : res_main_call0_v5 V0 (ix6 b n j k c z) = atomW (typ V0 b n) j k := by
  unfold res_main_call0_v5
  pointwise
  rw [v10_at V0 h0]
  exact wrap (by have := atomW_le (typ V0 b n) j k; omega)

include h0 in
theorem call1_at (z : Fin 1) : res_main_call1_v5 V0 (ix5 b n j k z) = atomW (typ V0 b n) j k := by
  unfold res_main_call1_v5
  pointwise
  rw [v6_at V0 h0]
  exact wrap (by have := atomW_le (typ V0 b n) j k; omega)

include h0 in
theorem call0_le (x : S8x512x4x4x3x1.Idx) : (res_main_call0_v5 V0 x : BitVec 32).toNat ≤ 36 := by
  idx_vars x
  rw [call0_at V0 h0]
  exact atomW_le _ _ _
include h0 in
theorem call1_le (x : S8x512x4x4x1.Idx) : (res_main_call1_v5 V0 x : BitVec 32).toNat ≤ 36 := by
  idx_vars x
  rw [call1_at V0 h0]
  exact atomW_le _ _ _

/-- The range test of a lookup. -/
theorem in_range {x : BitVec 32} (h : x.toNat ≤ 36) : IntOp.andi (IntOp.cmpi .sge x 0#32) (IntOp.cmpi .sle x 36#32) = 1#1 := by
  simp only [IntOp.cmpi, BitVec.sle_eq_decide, BitVec.toInt_eq_toNat_cond, BitVec.toNat_ofNat, Nat.reducePow, Nat.reduceMod]
  rw [decide_eq_true (by omega), decide_eq_true (by omega)]; rfl

/-- The coordinates of the four atoms of an angle. -/
def pt : Fin 4 → Fin 3 → EReal := fun k c => A2 V0 (ix4 b n (atomF (typ V0 b n) j k) c)

theorem fold_one {ι : Type} [DecidableEq ι] (s : Finset ι) (f : ι → BitVec 1) (h : ∀ x, f x = 1#1) : s.fold IntOp.andi 1#1 f = 1#1 := by
  induction s using Finset.induction_on with
  | empty => rfl
  | insert a s ha ih => rw [Finset.fold_insert ha, ih, h]; rfl

include h0 in
theorem v11_at : res_main_v11 V0 (ix5 b n j k c) = pt V0 b n j k c := by
  have hw := atomW_le (typ V0 b n) j k
  unfold res_main_v11
  pointwise
  rw [fold_one _ _ fun x => ?_]
  · rw [gather_coords, show ∀ x y : EReal, Scalar.select 1#1 x y = x from fun _ _ => rfl]
    pointwise
    unfold pt
    have e : (⟨min (res_main_call0_v5 V0 (ix6 b n j k c 0)).toInt.toNat 36, by omega⟩ : Fin 37) = atomF (typ V0 b n) j k := by
      refine Fin.ext ?_
      show min _ 36 = _
      rw [call0_at V0 h0, toInt_small (by omega)]
      exact min_eq_left hw
    rw [e]
  · exact in_range (call0_le V0 h0 x)

variable (h3 : ∀ j, A3 V0 j = 1#1)

include h0 h3 in
theorem v15_at : res_main_v15 V0 (ix4 b n j k) = (1 : EReal) := by
  have hw := atomW_le (typ V0 b n) j k
  unfold res_main_v15
  pointwise
  rw [fold_one _ _ fun x => ?_]
  · rw [gather_mask, show ∀ x y : EReal, Scalar.select 1#1 x y = x from fun _ _ => rfl]
    pointwise
    rw [show V0 (Proc.devRef .tc main_arg3) (ix3 b n _) = 1#1 from h3 _]
    show (((1#1 : BitVec 1).toNat : ℝ) : EReal) = 1
    simp
  · exact in_range (call1_le V0 h0 x)

end Reads

end Cert.Proof.RefReads

end
-- ==== Proof.RefAngle.lean ====
/-
  The reference's true angle at one residue and one torsion angle: the kernel's arithmetic, with a quotient by a root where
  the kernel multiplies by an inverse root.
-/
module

public import proofs.«01_k».proof.Proof.RefReads

@[expose] public section

set_option maxRecDepth 8192

noncomputable section

namespace Cert.Proof.RefAngle

open Cert.ReferenceIdeal Cert.ReferenceIdeal.Gen Cert.ReferenceIdeal.Value Cert.Proof.RefReads Cert.Proof.Reals
open Idealize.ShloMosaic

variable (V0 : Valuation τ sig (Elt Ideal)) (h0 : ∀ j, (A0 V0 j).toNat < 20) (b : Fin 8) (n : Fin 512) (j k : Fin 4) (c : Fin 3)

/-- A vector over its length, as the reference writes it and as the kernel does. -/
theorem unit3 (u : Fin 3 → EReal) (c : Fin 3) :
    Ideal.div (u c) (Ideal.sqrt (∑ x, u x * u x + Ideal.ofBits .f32 0x322BCC77#32)) = u c * Vals.rlen3 (F := Ideal) u := by
  rw [Fin.sum_univ_three, div_sqrt _ (pos_add (add_nonneg (add_nonneg (Reals.sq_nonneg _) (Reals.sq_nonneg _)) (Reals.sq_nonneg _)))]
  rfl
theorem dot3_eq (u v : Fin 3 → EReal) : ∑ x, u x * v x = Vals.dot3 (F := Ideal) u v := by
  rw [Fin.sum_univ_three]; rfl

include h0

theorem v32_at : res_main_v32 V0 (ix4 b n j c) = pt V0 b n j 2 c := by
  unfold res_main_v32
  pointwise
  exact v11_at V0 h0 b n j 2 c

theorem v35_at : res_main_v35 V0 (ix4 b n j c) = Vals.d0 (F := Ideal) (pt V0 b n j) c := by
  unfold res_main_v35
  pointwise
  rw [v32_at V0 h0]
  exact congrArg (pt V0 b n j 2 c - ·) (v11_at V0 h0 b n j 1 c)

theorem v43_at : res_main_v43 V0 (ix4 b n j c) = Vals.e0 (F := Ideal) (pt V0 b n j) c := by
  unfold res_main_v43
  pointwise
  simp only [v35_at V0 h0]
  exact unit3 _ c

theorem v44_at : res_main_v44 V0 (ix4 b n j c) = Vals.dv (F := Ideal) (pt V0 b n j) c := by
  unfold res_main_v44
  pointwise
  rw [v32_at V0 h0]
  exact congrArg (· - pt V0 b n j 2 c) (v11_at V0 h0 b n j 0 c)

theorem v96_at : res_main_v96 V0 (ix4 b n j c) = Vals.d3 (F := Ideal) (pt V0 b n j) c := by
  unfold res_main_v96
  pointwise
  rw [v32_at V0 h0]
  exact congrArg (· - pt V0 b n j 2 c) (v11_at V0 h0 b n j 3 c)

theorem v50_at : res_main_v50 V0 (ix4 b n j c) = Vals.d1 (F := Ideal) (pt V0 b n j) c := by
  unfold res_main_v50
  pointwise
  simp only [v44_at V0 h0, v43_at V0 h0]
  rw [dot3_eq (Vals.dv (F := Ideal) (pt V0 b n j)) (Vals.e0 (F := Ideal) (pt V0 b n j))]
  rfl

theorem v58_at : res_main_v58 V0 (ix4 b n j c) = Vals.e1 (F := Ideal) (pt V0 b n j) c := by
  unfold res_main_v58
  pointwise
  simp only [v50_at V0 h0]
  exact unit3 _ c

end Cert.Proof.RefAngle

end
-- ==== Proof.RefTerms.lean ====
/-
  The reference's true angle and predicted angle at one residue and one torsion angle, and the terms that the two results sum.
-/
module

public import proofs.«01_k».proof.Proof.RefAngle

@[expose] public section

set_option maxRecDepth 8192

noncomputable section

namespace Cert.Proof.RefTerms

open Cert.ReferenceIdeal Cert.ReferenceIdeal.Gen Cert.ReferenceIdeal.Value Cert.Proof.RefReads Cert.Proof.RefAngle Cert.Proof.Reals
open Idealize.ShloMosaic

variable (V0 : Valuation τ sig (Elt Ideal)) (h0 : ∀ j, (A0 V0 j).toNat < 20) (b : Fin 8) (n : Fin 512) (j k : Fin 4) (c : Fin 3)

include h0

theorem v103_at : (res_main_v103 V0 (ix4 b n j 0) : EReal) = Vals.zz (F := Ideal) (pt V0 b n j) ∧ (res_main_v103 V0 (ix4 b n j 1) : EReal) = Vals.yy (F := Ideal) (pt V0 b n j) := by
  unfold res_main_v103
  constructor
  · pointwise
    rw [Fin.sum_univ_three]
    simp only [v96_at V0 h0, v43_at V0 h0, v58_at V0 h0]
    rfl
  · pointwise
    simp only [v96_at V0 h0, v58_at V0 h0]
    exact dot3_eq _ _

omit h0 in
theorem pos2 (f : Fin 2 → EReal) : 0 < ∑ x, f x * f x + Ideal.ofBits .f32 0x322BCC77#32 := by
  rw [Fin.sum_univ_two]
  exact pos_add (add_nonneg (Reals.sq_nonneg _) (Reals.sq_nonneg _))

theorem v111_at : (res_main_v111 V0 (ix4 b n j 0) : EReal) = Vals.gx (F := Ideal) (pt V0 b n j) ∧ (res_main_v111 V0 (ix4 b n j 1) : EReal) = Vals.gy (F := Ideal) (pt V0 b n j) := by
  unfold res_main_v111
  have e := v103_at V0 h0 b n j
  constructor
  · pointwise
    rw [div_sqrt _ (pos2 fun x => res_main_v103 V0 (ix4 b n j x)), Fin.sum_univ_two, e.1, e.2]
    rfl
  · pointwise
    rw [div_sqrt _ (pos2 fun x => res_main_v103 V0 (ix4 b n j x)), Fin.sum_univ_two, e.1, e.2]
    rfl

/-! ## The predicted angle -/

omit h0

/-- The predicted pair of a torsion angle: the last four of the seven. -/
def ag : Fin 2 → EReal := fun i => A1 V0 (ix4 b n (⟨j.val + 3, by omega⟩ : Fin 7) i)

theorem v145_at (i : Fin 2) : (res_main_v145 V0 (ix4 b n j i) : EReal) = ag V0 b n j i := by
  unfold res_main_v145
  pointwise
  exact congrArg (fun x : Fin 7 => A1 V0 (ix4 b n x i)) (Fin.ext (Nat.add_comm _ _))

theorem na_pos (x y : EReal) : 0 < Vals.na (F := Ideal) x y := by
  show 0 < (Ideal.ofBits .f32 0x322BCC77#32 + x * x) + y * y
  rw [add_assoc]
  exact pos_add' (add_nonneg (Reals.sq_nonneg _) (Reals.sq_nonneg _))

theorem v150_at : (res_main_v150 V0 (ix3 b n j) : EReal) = Ideal.sqrt (Vals.na (F := Ideal) (ag V0 b n j 0) (ag V0 b n j 1)) := by
  unfold res_main_v150
  pointwise
  simp only [v145_at]
  rw [Fin.sum_univ_two, ← add_assoc]
  rfl

theorem v153_at (i : Fin 2) : (res_main_v153 V0 (ix4 b n j i) : EReal) = ag V0 b n j i * Vals.rn (F := Ideal) (ag V0 b n j 0) (ag V0 b n j 1) := by
  unfold res_main_v153
  pointwise
  rw [v150_at, v145_at]
  exact div_sqrt _ (na_pos _ _)

/-- The length term: what the second result averages. -/
def termA : EReal := Vals.lenTerm (F := Ideal) (ag V0 b n j 0) (ag V0 b n j 1)

theorem v176_at (h1 : ∀ i, max (A1 V0 i : EReal) (-(A1 V0 i : EReal)) < ⊤) :
    (res_main_v176 V0 (ix3 b n j) : EReal) = (Vals.na (F := Ideal) (ag V0 b n j 0) (ag V0 b n j 1) * Vals.rn (F := Ideal) (ag V0 b n j 0) (ag V0 b n j 1) - Vals.one (F := Ideal) : EReal) := by
  have e : (Vals.na (F := Ideal) (ag V0 b n j 0) (ag V0 b n j 1) * Vals.rn (F := Ideal) (ag V0 b n j 0) (ag V0 b n j 1) : EReal) = Ideal.sqrt (Vals.na (F := Ideal) (ag V0 b n j 0) (ag V0 b n j 1)) :=
    mul_rsqrt (na_pos _ _) (norm_ne_top (h1 _) (h1 _))
  rw [e]
  unfold res_main_v176
  pointwise
  rw [v150_at]

include h0

theorem v155_at : (res_main_v155 V0 (ix4 b n j 0) : EReal) = ag V0 b n j 0 * Vals.rn (F := Ideal) (ag V0 b n j 0) (ag V0 b n j 1) - Vals.gx (F := Ideal) (pt V0 b n j)
    ∧ (res_main_v155 V0 (ix4 b n j 1) : EReal) = ag V0 b n j 1 * Vals.rn (F := Ideal) (ag V0 b n j 0) (ag V0 b n j 1) - Vals.gy (F := Ideal) (pt V0 b n j) := by
  have e := v111_at V0 h0 b n j
  unfold res_main_v155
  constructor
  · pointwise
    rw [e.1, v153_at]
  · pointwise
    rw [e.2, v153_at]

omit h0 in
theorem dist_sq (x y : EReal) : Ideal.sqrt (Ideal.ofBits .f32 0x322BCC77#32 + (x * x + y * y)) * Ideal.sqrt (Ideal.ofBits .f32 0x322BCC77#32 + (x * x + y * y)) = Vals.dist2 (F := Ideal) x y := by
  rw [sqrt_sq (pos_add' (add_nonneg (Reals.sq_nonneg _) (Reals.sq_nonneg _))).le, ← add_assoc]
  rfl

omit h0 in
theorem dist_pos (x y : EReal) : 0 < Vals.dist2 (F := Ideal) x y := na_pos x y

theorem v160_at : (res_main_v160 V0 (ix3 b n j) : EReal) = Ideal.sqrt (Vals.dg2 (F := Ideal) (pt V0 b n j) (ag V0 b n j 0) (ag V0 b n j 1)) := by
  have e := v155_at V0 h0 b n j
  unfold res_main_v160
  pointwise
  rw [Fin.sum_univ_two, e.1, e.2, ← add_assoc]
  rfl

/-- A bit of a table by residue type and torsion angle. -/
def bitOf (t : Fin 84 → BitVec 1) (s : ℕ) (j : Fin 4) : BitVec 1 := t (Fin.ofNat 84 (4 * s + j.val))

theorem table_at (t : Fin 84 → BitVec 1) :
    Host.gather gather_S21x4_S8x512x1_S8x512x4_2_0_n_n_0_2_14 (fun i => t (S21x4.rowMajor i)) (broadcastInDim S8x512x1 ![0, 1] bcast_S8x512_S8x512x1_0_1 (select (cmpi .slt (V0 (Proc.devRef .tc main_arg0)) (broadcastInDim S8x512 ![] bcast_S_S8x512 (constantI S_ 32 0#32))) (addi (V0 (Proc.devRef .tc main_arg0)) (broadcastInDim S8x512 ![] bcast_S_S8x512 (constantI S_ 32 21#32))) (V0 (Proc.devRef .tc main_arg0)))) (ix3 b n j)
      = bitOf t (typ V0 b n) j := by
  have hs : typ V0 b n < 20 := h0 (ix2 b n)
  rw [gather_type]
  refine congrArg t (Fin.ext ?_)
  rw [rowMajor_val2 _ 4 rfl]
  show min _ 20 * 4 + j.val = (4 * typ V0 b n + j.val) % 84
  rw [typeIdx_at V0 h0]
  omega

theorem v161_at : (res_main_v161 V0 (ix4 b n j 0) : EReal) = ag V0 b n j 0 * Vals.rn (F := Ideal) (ag V0 b n j 0) (ag V0 b n j 1) - Scalar.select (bitOf lit2 (typ V0 b n) j) (-Vals.gx (F := Ideal) (pt V0 b n j) : EReal) (Vals.gx (F := Ideal) (pt V0 b n j))
    ∧ (res_main_v161 V0 (ix4 b n j 1) : EReal) = ag V0 b n j 1 * Vals.rn (F := Ideal) (ag V0 b n j 0) (ag V0 b n j 1) - Scalar.select (bitOf lit2 (typ V0 b n) j) (-Vals.gy (F := Ideal) (pt V0 b n j) : EReal) (Vals.gy (F := Ideal) (pt V0 b n j)) := by
  have e := v111_at V0 h0 b n j
  unfold res_main_v161
  constructor
  · pointwise
    rw [e.1, v153_at, table_at V0 h0]
  · pointwise
    rw [e.2, v153_at, table_at V0 h0]

theorem v166_at : (res_main_v166 V0 (ix3 b n j) : EReal) = Ideal.sqrt (Scalar.select (bitOf lit2 (typ V0 b n) j) (Vals.da2 (F := Ideal) (pt V0 b n j) (ag V0 b n j 0) (ag V0 b n j 1)) (Vals.dg2 (F := Ideal) (pt V0 b n j) (ag V0 b n j 0) (ag V0 b n j 1))) := by
  have e := v161_at V0 h0 b n j
  unfold res_main_v166
  pointwise
  rw [Fin.sum_univ_two, e.1, e.2, ← add_assoc]
  rcases (by generalize bitOf lit2 (typ V0 b n) j = w; revert w; decide : bitOf lit2 (typ V0 b n) j = 0#1 ∨ bitOf lit2 (typ V0 b n) j = 1#1) with h | h
  · rw [h]; rfl
  · rw [h]
    show Ideal.sqrt (Ideal.ofBits .f32 0x322BCC77#32 + (ag V0 b n j 0 * Vals.rn (F := Ideal) (ag V0 b n j 0) (ag V0 b n j 1) - -Vals.gx (F := Ideal) (pt V0 b n j)) * (ag V0 b n j 0 * Vals.rn (F := Ideal) (ag V0 b n j 0) (ag V0 b n j 1) - -Vals.gx (F := Ideal) (pt V0 b n j))
      + (ag V0 b n j 1 * Vals.rn (F := Ideal) (ag V0 b n j 0) (ag V0 b n j 1) - -Vals.gy (F := Ideal) (pt V0 b n j)) * (ag V0 b n j 1 * Vals.rn (F := Ideal) (ag V0 b n j 0) (ag V0 b n j 1) - -Vals.gy (F := Ideal) (pt V0 b n j)) : EReal) = _
    rw [sub_neg', sub_neg']
    rfl

/-! ## The terms -/

variable (h3 : ∀ j, A3 V0 j = 1#1)

omit h0 in
theorem fold_zero {ι : Type} [DecidableEq ι] (s : Finset ι) (f : ι → BitVec 1) (h : ∀ x, f x = 0#1) : s.fold IntOp.ori 0#1 f = 0#1 := by
  induction s using Finset.induction_on with
  | empty => rfl
  | insert a s ha ih => rw [Finset.fold_insert ha, ih, h]; rfl

omit h0 in
theorem bit_cases (w : BitVec 1) : w = 0#1 ∨ w = 1#1 := by revert w; decide

theorem chi_at :
    Host.gather gather_S21x4_S8x512x1_S8x512x4_2_0_n_n_0_2_14 (res_main_c_0 V0) (broadcastInDim S8x512x1 ![0, 1] bcast_S8x512_S8x512x1_0_1 (select (cmpi .slt (V0 (Proc.devRef .tc main_arg0)) (broadcastInDim S8x512 ![] bcast_S_S8x512 (constantI S_ 32 0#32))) (addi (V0 (Proc.devRef .tc main_arg0)) (broadcastInDim S8x512 ![] bcast_S_S8x512 (constantI S_ 32 21#32))) (V0 (Proc.devRef .tc main_arg0)))) (ix3 b n j)
      = bitOf lit1 (typ V0 b n) j := table_at V0 h0 b n j lit1

include h3 in
theorem v154_at : (res_main_v154 V0 (ix3 b n j) : EReal) = Scalar.select (bitOf lit1 (typ V0 b n) j) (1 : EReal) 0 := by
  have e := v111_at V0 h0 b n j
  unfold res_main_v154
  pointwise
  simp only [v15_at V0 h0 b n j _ h3]
  rw [chi_at V0 h0, fold_zero _ _ fun x => by simp]
  generalize bitOf lit1 (typ V0 b n) j = w
  rcases bit_cases w with rfl | rfl
  · show (((IntOp.andi (IntOp.andi 0#1 _) _ : BitVec 1).toNat : ℝ) : EReal) = 0
    rw [show ∀ x y : BitVec 1, IntOp.andi (IntOp.andi 0#1 x) y = 0#1 by decide]
    simp
  · have h : (0 : EReal) < ((((1#1 : BitVec 1).toNat : ℝ) : EReal)) * (1 * 1 * 1 * 1) := by simp
    show (((IntOp.andi (IntOp.andi 1#1 (BitVec.ofBool (decide ((0 : EReal) < ((((1#1 : BitVec 1).toNat : ℝ) : EReal)) * (1 * 1 * 1 * 1))))) (~~~(0#1)) : BitVec 1).toNat : ℝ) : EReal) = 1
    rw [decide_eq_true h]
    show (((1#1 : BitVec 1).toNat : ℝ) : EReal) = 1
    simp

end Cert.Proof.RefTerms

end
-- ==== Proof.RefSums.lean ====
/-
  The reference's two results as sums over the residues and their four torsion angles of the kernel's own terms.
-/
module

public import proofs.«01_k».proof.Proof.RefTerms

@[expose] public section

set_option maxRecDepth 8192

noncomputable section

namespace Cert.Proof.RefSums

open Cert.ReferenceIdeal Cert.ReferenceIdeal.Gen Cert.ReferenceIdeal.Value Cert.Proof.RefReads Cert.Proof.RefAngle Cert.Proof.RefTerms Cert.Proof.Reals
open Idealize.ShloMosaic

/-- The bit that lets a torsion angle be flipped, as the kernel computes it. -/
def flipB (sq : BitVec 32) (j : Fin 4) : BitVec 1 :=
  match j with | 0 => 0#1 | 1 => Vals.flip1 sq | 2 => Vals.flip2 sq | 3 => 0#1

theorem flip_bits : ∀ (s : Fin 20) (j : Fin 4), bitOf lit2 s.val j = flipB (BitVec.ofNat 32 s.val) j := by decide +kernel
theorem chi_bits : ∀ (s : Fin 20) (j : Fin 4), bitOf lit1 s.val j = IntOp.cmpi .sgt (Vals.nch 0#32 (BitVec.ofNat 32 s.val)) (BitVec.ofNat 32 j.val) := by decide +kernel

theorem mf_eq (p : Fin 4 → Fin 3 → EReal) (nc j : BitVec 32) : (Vals.mf (F := Ideal) p nc j : EReal) = Scalar.select (IntOp.cmpi .sgt nc j) (1 : EReal) 0 := by
  have e : Vals.counted (F := Ideal) p nc j = IntOp.cmpi .sgt nc j := by
    show IntOp.andi (IntOp.cmpi .sgt nc j) (IntOp.andi (BitVec.ofBool (decide (Vals.gx (F := Ideal) p = Vals.gx (F := Ideal) p))) (BitVec.ofBool (decide (Vals.gy (F := Ideal) p = Vals.gy (F := Ideal) p)))) = _
    rw [decide_eq_true rfl, decide_eq_true rfl]
    generalize IntOp.cmpi .sgt nc j = w
    revert w; decide
  unfold Vals.mf
  rw [e]
  show Scalar.select _ (Ideal.ofBits .f32 0x00000000#32 + Ideal.ofBits .f32 0x3F800000#32) (Ideal.ofBits .f32 0x00000000#32) = _
  rw [Ideal.ofBits_zero_f32, Ideal.ofBits_one_f32, zero_add]

theorem md_eq (p : Fin 4 → Fin 3 → EReal) (w : BitVec 1) (x y : EReal) :
    min (Vals.dg2 (F := Ideal) p x y : EReal) (Scalar.select w (Vals.da2 (F := Ideal) p x y) (Vals.dg2 (F := Ideal) p x y)) = Vals.md (F := Ideal) p w x y := by
  rcases bit_cases w with rfl | rfl
  · exact min_self _
  · rfl

variable (V0 : Valuation τ sig (Elt Ideal)) (h0 : ∀ j, (A0 V0 j).toNat < 20) (b : Fin 8) (n : Fin 512) (j : Fin 4)

/-- What a torsion angle adds to the sum of squared distances, and to the count. -/
def termN : EReal := Vals.md (F := Ideal) (pt V0 b n j) (flipB (A0 V0 (ix2 b n)) j) (ag V0 b n j 0) (ag V0 b n j 1)
  * Vals.mf (F := Ideal) (pt V0 b n j) (Vals.nch 0#32 (A0 V0 (ix2 b n))) (BitVec.ofNat 32 j.val)
def termD : EReal := Vals.mf (F := Ideal) (pt V0 b n j) (Vals.nch 0#32 (A0 V0 (ix2 b n))) (BitVec.ofNat 32 j.val)

include h0

theorem flip_at : bitOf lit2 (typ V0 b n) j = flipB (A0 V0 (ix2 b n)) j := by
  have e := flip_bits ⟨typ V0 b n, h0 _⟩ j
  rwa [show BitVec.ofNat 32 (⟨typ V0 b n, h0 _⟩ : Fin 20).val = A0 V0 (ix2 b n) from (BitVec.ofNat_toNat _ _).trans (BitVec.setWidth_eq _)] at e
theorem chi_bit_at : bitOf lit1 (typ V0 b n) j = IntOp.cmpi .sgt (Vals.nch 0#32 (A0 V0 (ix2 b n))) (BitVec.ofNat 32 j.val) := by
  have e := chi_bits ⟨typ V0 b n, h0 _⟩ j
  rwa [show BitVec.ofNat 32 (⟨typ V0 b n, h0 _⟩ : Fin 20).val = A0 V0 (ix2 b n) from (BitVec.ofNat_toNat _ _).trans (BitVec.setWidth_eq _)] at e

variable (h3 : ∀ j, A3 V0 j = 1#1)

include h3 in
theorem termD_at : (res_main_v154 V0 (ix3 b n j) : EReal) = termD V0 b n j := by
  rw [v154_at V0 h0 b n j h3, chi_bit_at V0 h0]
  exact (mf_eq _ _ _).symm

include h3 in
theorem termN_at : mulf (minimumf (mulf (res_main_v160 V0) (res_main_v160 V0)) (mulf (res_main_v166 V0) (res_main_v166 V0))) (res_main_v154 V0) (ix3 b n j) = termN V0 b n j := by
  pointwise
  rw [termD_at V0 h0 b n j h3, v160_at V0 h0, v166_at V0 h0, sqrt_sq (x := Vals.dg2 (F := Ideal) (pt V0 b n j) (ag V0 b n j 0) (ag V0 b n j 1)) (dist_pos _ _).le, sqrt_sq, md_eq]
  · rw [flip_at V0 h0]; rfl
  · rcases bit_cases (bitOf lit2 (typ V0 b n) j) with h | h
    · rw [h]; exact (dist_pos _ _).le
    · rw [h]; exact (dist_pos _ _).le

/-- The sums over the residues and their torsion angles. -/
def sumN : EReal := ∑ b, ∑ n, ∑ j, termN V0 b n j
def sumD : EReal := ∑ b, ∑ n, ∑ j, termD V0 b n j
def sumA : EReal := ∑ b, ∑ n, ∑ j, termA V0 b n j

include h3 in
theorem ref0 : (Host.divf (Host.reduceAdd (mulf (minimumf (mulf (res_main_v160 V0) (res_main_v160 V0)) (mulf (res_main_v166 V0) (res_main_v166 V0))) (res_main_v154 V0)) (constant S_ .f32 0x00000000#32) reducesTo_S8x512x4_S_d0_1_2 h_S_) (maximumf (Host.reduceAdd (res_main_v154 V0) (constant S_ .f32 0x00000000#32) reducesTo_S8x512x4_S_d0_1_2 h_S_) (constant S_ .f32 0x3F800000#32)) : FVec Ideal S_ .f32)
    = fun _ => Ideal.div (sumN V0) (max (sumD V0) 1) := by
  funext i
  have eN : ∀ b n j, mulf (minimumf (mulf (res_main_v160 V0) (res_main_v160 V0)) (mulf (res_main_v166 V0) (res_main_v166 V0))) (res_main_v154 V0) (ix3 b n j) = termN V0 b n j := fun b n j => termN_at V0 h0 b n j h3
  have eD := fun b n j => termD_at V0 h0 b n j h3
  generalize mulf (minimumf (mulf (res_main_v160 V0) (res_main_v160 V0)) (mulf (res_main_v166 V0) (res_main_v166 V0))) (res_main_v154 V0) = x at eN
  generalize res_main_v154 V0 = y at eD
  pointwise
  simp only [eN, eD]
  rfl

omit h0 in
theorem ref1 (h1 : ∀ i, max (A1 V0 i : EReal) (-(A1 V0 i : EReal)) < ⊤) :
    (Host.divf (Host.reduceAdd (mulf (res_main_v176 V0) (res_main_v176 V0)) (constant S_ .f32 0x00000000#32) reducesTo_S8x512x4_S_d0_1_2 h_S_) (constant S_ .f32 0x46800000#32) : FVec Ideal S_ .f32)
    = fun _ => sumA V0 * Ideal.ofBits .f32 0x38800000#32 := by
  funext i
  have e : ∀ b n j, mulf (res_main_v176 V0) (res_main_v176 V0) (ix3 b n j) = termA V0 b n j := fun b n j => by
    pointwise
    rw [v176_at V0 b n j h1]
    rfl
  generalize mulf (res_main_v176 V0) (res_main_v176 V0) = x at e
  pointwise
  simp only [e]
  exact div_count _

end Cert.Proof.RefSums

end
-- ==== Proof.KSums.lean ====
/-
  The kernel's rows of sums, over all its subcores, lanes and trips, as the same sums over the residues and their four
  torsion angles that the reference's results are.
-/
module

public import proofs.«01_k».proof.Proof.KLooks
public import proofs.«01_k».proof.Proof.RefSums

@[expose] public section

set_option maxRecDepth 8192

noncomputable section

namespace Cert.Proof.KSums

open Cert.KernelIdeal Cert.KernelIdeal.Gen
open Cert.Proof.Trip Cert.Proof.Tile Cert.Proof.Pieces Cert.Proof.KLooks
open Cert.Proof.RefReads Cert.Proof.RefTerms Cert.Proof.RefSums
open Idealize.ShloMosaic

abbrev RV : Type := Valuation Cert.ReferenceIdeal.τ Cert.ReferenceIdeal.sig (Elt Ideal)

/-! ## Words -/

theorem nch_lane (w sq : BitVec 32) : Vals.nch w sq = Vals.nch 0#32 sq := by
  have e : IntOp.muli w 0#32 = IntOp.muli 0#32 0#32 := (BitVec.mul_zero (x := w)).trans (BitVec.mul_zero (x := 0#32)).symm
  unfold Vals.nch
  rw [e]

theorem table_word : ∀ (s : Fin 20) (j k : Fin 4), (tAt (F := Ideal) lT (16 * s.val + (4 * j.val + k.val))).toNat = 3 * (atomF s.val j k).val := by decide +kernel

theorem col_eq : ∀ (t : Fin k0_t1_loop.trips) (l : S16.Idx), (colV lanes t l).toNat = 16 * t.val + (l 0).val := by decide +kernel

theorem x_lt (t : Fin k0_t1_loop.trips) (l : S16.Idx) : 16 * t.val + (l 0).val < 128 := by
  have h := col_lt t l
  rwa [col_eq] at h

/-! ## What a trip reads -/

variable (V0 : RV) (L : grid0.Coords) (t : Fin k0_t1_loop.trips) (l : S16.Idx)

/-- The residue of a trip's lane. -/
def resOf : Fin 512 := res (quarter L) ⟨16 * t.val + (l 0).val, x_lt t l⟩

theorem q_at : qAt (qT (F := Ideal) L (lQ (A0 V0))) (16 * t.val + (l 0).val) = A0 V0 (ix2 (batch L) (resOf L t l)) := by
  rw [qAt, dif_pos (x_lt t l)]
  exact (qT_at L _ _).trans (lQ_at _ _ _ _)

theorem a_at (j : Fin 4) (i : Fin 2) : aAt (aT (F := Ideal) L (lA (A1 V0))) j i (16 * t.val + (l 0).val) = ag V0 (batch L) (resOf L t l) j i := by
  rw [aAt, dif_pos (x_lt t l)]
  exact (aT_at L _ _ _ _).trans (lA_at _ _ _ _ _ _)

variable (h0 : ∀ j, (A0 V0 j).toNat < 20)
include h0

theorem row_eq (k : ℕ) (hk : k < 16) : (addi (rowV (F := Ideal) (qT L (lQ (A0 V0))) t) (broadcast S16 (BitVec.ofNat 32 k)) l).toNat
    = 16 * typ V0 (batch L) (resOf L t l) + k := by
  show (qAt (qT (F := Ideal) L (lQ (A0 V0))) (16 * t.val + (l 0).val) * 16#32 + BitVec.ofNat 32 k).toNat = _
  rw [q_at]
  have h := h0 (ix2 (batch L) (resOf L t l))
  rw [BitVec.toNat_add, BitVec.toNat_mul, BitVec.toNat_ofNat]
  show ((A0 V0 (ix2 (batch L) (resOf L t l))).toNat * 16 % 2 ^ 32 + k % 2 ^ 32) % 2 ^ 32 = 16 * (A0 V0 (ix2 (batch L) (resOf L t l))).toNat + k
  omega

theorem p_at (j k : Fin 4) (c : Fin 3) : P (F := Ideal) (cT L (lC (A2 V0))) lT (colV lanes t) (rowV (F := Ideal) (qT L (lQ (A0 V0))) t) j k c l
    = pt V0 (batch L) (resOf L t l) j k c := by
  have e : (addi (tv (F := Ideal) lT (rowV (F := Ideal) (qT L (lQ (A0 V0))) t) (4 * j.val + k.val)) (broadcast S16 (BitVec.ofNat 32 c.val)) l).toNat
      = 3 * (atomF (typ V0 (batch L) (resOf L t l)) j k).val + c.val := by
    show (tAt (F := Ideal) lT (addi (rowV (F := Ideal) (qT L (lQ (A0 V0))) t) (broadcast S16 (BitVec.ofNat 32 (4 * j.val + k.val))) l).toNat + BitVec.ofNat 32 c.val).toNat = _
    rw [row_eq V0 L t l h0 _ (by omega), BitVec.toNat_add, table_word ⟨typ V0 (batch L) (resOf L t l), h0 _⟩ j k, BitVec.toNat_ofNat]
    show (3 * (atomF (typ V0 (batch L) (resOf L t l)) j k).val + c.val % 2 ^ 32) % 2 ^ 32 = _
    omega
  show cAt (F := Ideal) _ (addi (tv (F := Ideal) lT (rowV (F := Ideal) (qT L (lQ (A0 V0))) t) (4 * j.val + k.val)) (broadcast S16 (BitVec.ofNat 32 c.val)) l).toNat (colV lanes t l).toNat = _
  rw [e, col_eq, cAt, dif_pos ⟨by omega, x_lt t l⟩]
  exact (cT_at L _ (row _ c) _).trans (lC_at _ _ _ _ _ _)

/-! ## What a trip adds -/

variable (x : FVec Ideal S16 .f32)

theorem trN_at : (trN (F := Ideal) (cT L (lC (A2 V0))) (aT L (lA (A1 V0))) (qT L (lQ (A0 V0))) lT lanes t x l : EReal)
    = x l + ∑ j : Fin 4, termN V0 (batch L) (resOf L t l) j := by
  unfold trN
  simp only [p_at V0 L t l h0, a_at V0 L t l, q_at V0 L t l]
  unfold Vals.stepN
  rw [nch_lane, Fin.sum_univ_four, ← add_assoc, ← add_assoc, ← add_assoc]
  rfl

theorem trD_at : (trD (F := Ideal) (cT L (lC (A2 V0))) (qT L (lQ (A0 V0))) lT lanes t x l : EReal)
    = x l + ∑ j : Fin 4, termD V0 (batch L) (resOf L t l) j := by
  unfold trD
  simp only [p_at V0 L t l h0, q_at V0 L t l]
  unfold Vals.stepD
  rw [nch_lane, Fin.sum_univ_four, ← add_assoc, ← add_assoc, ← add_assoc]
  rfl

omit h0 in
theorem trA_at : (trA (F := Ideal) (aT L (lA (A1 V0))) t x l : EReal)
    = x l + ∑ j : Fin 4, termA V0 (batch L) (resOf L t l) j := by
  unfold trA
  simp only [a_at V0 L t l]
  unfold Vals.stepA
  rw [Fin.sum_univ_four, ← add_assoc, ← add_assoc, ← add_assoc]
  rfl

/-! ## What the trips add up to -/

omit h0 in
theorem sum_trips (N : ℕ) : ∀ (f : Fin N → EReal) (g : ℕ → EReal), g 0 = 0 → (∀ k : Fin N, g (k.val + 1) = g k.val + f k) → g N = ∑ k, f k := by
  induction N with
  | zero => intro f g hg _; rw [hg]; rfl
  | succ n ih =>
    intro f g hg hs
    rw [Fin.sum_univ_castSucc, ← ih (fun k => f k.castSucc) g hg (fun k => hs k.castSucc)]
    exact hs (Fin.last n)

omit h0 in
theorem acc_zero : (k0_pay218 (F := Ideal) l : EReal) = 0 := Ideal.ofBits_zero_f32

theorem accN : ((accAt (F := Ideal) L (lQ (A0 V0)) (lA (A1 V0)) (lC (A2 V0)) lT k0_t1_loop.trips).1 l : EReal)
    = ∑ t : Fin k0_t1_loop.trips, ∑ j : Fin 4, termN V0 (batch L) (resOf L t l) j :=
  sum_trips _ _ (fun k => (accAt (F := Ideal) L (lQ (A0 V0)) (lA (A1 V0)) (lC (A2 V0)) lT k).1 l) (acc_zero l)
    fun k => by
      show (accAt (F := Ideal) L (lQ (A0 V0)) (lA (A1 V0)) (lC (A2 V0)) lT (k.val + 1)).1 l = _
      rw [accAt_succ]
      exact trN_at V0 L k l h0 _

theorem accD : ((accAt (F := Ideal) L (lQ (A0 V0)) (lA (A1 V0)) (lC (A2 V0)) lT k0_t1_loop.trips).2.1 l : EReal)
    = ∑ t : Fin k0_t1_loop.trips, ∑ j : Fin 4, termD V0 (batch L) (resOf L t l) j :=
  sum_trips _ _ (fun k => (accAt (F := Ideal) L (lQ (A0 V0)) (lA (A1 V0)) (lC (A2 V0)) lT k).2.1 l) (acc_zero l)
    fun k => by
      show (accAt (F := Ideal) L (lQ (A0 V0)) (lA (A1 V0)) (lC (A2 V0)) lT (k.val + 1)).2.1 l = _
      rw [accAt_succ]
      exact trD_at V0 L k l h0 _

omit h0 in
theorem accA : ((accAt (F := Ideal) L (lQ (A0 V0)) (lA (A1 V0)) (lC (A2 V0)) lT k0_t1_loop.trips).2.2 l : EReal)
    = ∑ t : Fin k0_t1_loop.trips, ∑ j : Fin 4, termA V0 (batch L) (resOf L t l) j :=
  sum_trips _ _ (fun k => (accAt (F := Ideal) L (lQ (A0 V0)) (lA (A1 V0)) (lC (A2 V0)) lT k).2.2 l) (acc_zero l)
    fun k => by
      show (accAt (F := Ideal) L (lQ (A0 V0)) (lA (A1 V0)) (lC (A2 V0)) lT (k.val + 1)).2.2 l = _
      rw [accAt_succ]
      exact trA_at V0 L k l _

/-! ## Every residue once -/

omit h0 in
theorem trips8 : k0_t1_loop.trips = 8 := by decide

omit h0 in
/-- The columns and trips, and the sequences and residues. -/
def places : Fin 512 × Fin k0_t1_loop.trips ≃ Fin 8 × Fin 512 where
  toFun p := (⟨p.1.val / 16 % 8, by omega⟩, ⟨p.1.val / 128 * 128 + (16 * p.2.val + p.1.val % 16), by have := lt_of_lt_of_eq p.2.isLt trips8; omega⟩)
  invFun q := (⟨q.2.val / 128 * 128 + (16 * q.1.val + q.2.val % 16), by omega⟩, ⟨q.2.val % 128 / 16, by rw [trips8]; omega⟩)
  left_inv p := by
    obtain ⟨a, t⟩ := p
    have ht := lt_of_lt_of_eq t.isLt trips8
    refine Prod.ext (Fin.ext ?_) (Fin.ext ?_)
    · show (a.val / 128 * 128 + (16 * t.val + a.val % 16)) / 128 * 128 + (16 * (a.val / 16 % 8) + (a.val / 128 * 128 + (16 * t.val + a.val % 16)) % 16) = a.val
      omega
    · show (a.val / 128 * 128 + (16 * t.val + a.val % 16)) % 128 / 16 = t.val
      omega
  right_inv q := by
    obtain ⟨b, n⟩ := q
    refine Prod.ext (Fin.ext ?_) (Fin.ext ?_)
    · show (n.val / 128 * 128 + (16 * b.val + n.val % 16)) / 16 % 8 = b.val
      omega
    · show (n.val / 128 * 128 + (16 * b.val + n.val % 16)) / 128 * 128 + (16 * (n.val % 128 / 16) + (n.val / 128 * 128 + (16 * b.val + n.val % 16)) % 16) = n.val
      omega

omit h0 in
theorem place_eq (r : Fin 3) (a : Fin 512) (t : Fin k0_t1_loop.trips) :
    (batch (tileOf (ix2 r a)), resOf (tileOf (ix2 r a)) t (lane a.val)) = places (a, t) := by
  refine Prod.ext (Fin.ext ?_) (Fin.ext ?_)
  · show (2 * (a.val / 32) + a.val / 16 % 2) % 8 = a.val / 16 % 8
    omega
  · show (2 * (a.val / 32) + a.val / 16 % 2) / 8 * 128 + (16 * t.val + a.val % 16) = a.val / 128 * 128 + (16 * t.val + a.val % 16)
    omega

omit h0 in
theorem sum_places (r : Fin 3) (f : Fin 8 → Fin 512 → EReal) :
    ∑ a : Fin 512, ∑ t : Fin k0_t1_loop.trips, f (batch (tileOf (ix2 r a))) (resOf (tileOf (ix2 r a)) t (lane a.val)) = ∑ b : Fin 8, ∑ n : Fin 512, f b n := by
  rw [← Fintype.sum_prod_type', ← Fintype.sum_prod_type' (f := f)]
  exact Fintype.sum_equiv places _ _ fun p => congrArg (fun q : Fin 8 × Fin 512 => f q.1 q.2) (place_eq r p.1 p.2)

/-! ## The rows of sums -/

theorem row0 : ∑ a : Fin 512, (sums (F := Ideal) (A0 V0) (A1 V0) (A2 V0) (ix2 (0 : Fin 3) a) : EReal) = sumN V0 := by
  rw [sumN, ← sum_places 0]
  refine Finset.sum_congr rfl fun a _ => ?_
  rw [← accN V0 _ _ h0]
  rfl
theorem row1 : ∑ a : Fin 512, (sums (F := Ideal) (A0 V0) (A1 V0) (A2 V0) (ix2 (1 : Fin 3) a) : EReal) = sumD V0 := by
  rw [sumD, ← sum_places 1]
  refine Finset.sum_congr rfl fun a _ => ?_
  rw [← accD V0 _ _ h0]
  rfl
omit h0 in
theorem row2 : ∑ a : Fin 512, (sums (F := Ideal) (A0 V0) (A1 V0) (A2 V0) (ix2 (2 : Fin 3) a) : EReal) = sumA V0 := by
  rw [sumA, ← sum_places 2]
  refine Finset.sum_congr rfl fun a _ => ?_
  rw [← accA V0 _ _]
  rfl

omit h0 in
theorem rows_at (g : Vec Ideal S3x512 .f32) (r : Fin 3) : (rows (F := Ideal) g (ix1 r) : EReal) = ∑ a : Fin 512, (g (ix2 r a) : EReal) := by
  unfold rows
  pointwise

theorem ker0 : res0 (F := Ideal) (sums (A0 V0) (A1 V0) (A2 V0)) = fun _ => Ideal.div (sumN V0) (max (sumD V0) 1) := by
  funext i
  have e0 := (rows_at (sums (F := Ideal) (A0 V0) (A1 V0) (A2 V0)) 0).trans (row0 V0 h0)
  have e1 := (rows_at (sums (F := Ideal) (A0 V0) (A1 V0) (A2 V0)) 1).trans (row1 V0 h0)
  unfold res0
  generalize rows (F := Ideal) (sums (A0 V0) (A1 V0) (A2 V0)) = R at e0 e1
  pointwise
  rw [e0, e1]

omit h0 in
theorem ker1 : res1 (F := Ideal) (sums (A0 V0) (A1 V0) (A2 V0)) = fun _ => sumA V0 * Ideal.ofBits .f32 0x38800000#32 := by
  funext i
  have e2 := (rows_at (sums (F := Ideal) (A0 V0) (A1 V0) (A2 V0)) 2).trans (row2 V0)
  unfold res1
  generalize rows (F := Ideal) (sums (A0 V0) (A1 V0) (A2 V0)) = R at e2
  pointwise
  rw [e2]

end Cert.Proof.KSums

end
-- ==== Proof.Value.lean ====
/-
  The kernel's two results are the reference's: both programs run, and end with the same quotient of sums and the same mean.
-/
module

public import proofs.«01_k».proof.Proof.Frames
public import proofs.«01_k».proof.Proof.KSums

@[expose] public section

noncomputable section

namespace Cert.Proof.Value

open Cert.Proof.Launch Cert.Proof.Pieces
open Idealize.ShloMosaic Idealize.ShloMosaic.StableHlo Idealize.SL.Sem

theorem algebraic : Cert.algebraic_KernelIdeal_ReferenceIdeal_pre_inputs_ok := by
  intro m g m' g' hpre hag
  refine ⟨fun c => res0 (oOut m c), fun c => res1 (oOut m c), ?_, ?_⟩
  · exact (θ_run Cert.KernelIdeal.defs _ _).mono (fun r h c => ⟨(h.1 c).2.1, (h.1 c).2.2, (h.1 c).1⟩)
      (run_main (F := Ideal) m g fun d j => (Frames.inputs_of (hpre d)).1 j)
  · refine (θ_run Cert.ReferenceIdeal.defs _ _).mono (fun r h c => ?_) (Cert.ReferenceIdeal.Value.run (F := Ideal) m' g')
    obtain ⟨i0, i1, i3⟩ := Frames.inputs_of (hpre c)
    obtain ⟨g0, g1, g2, g3⟩ := hag c
    have a0 : RefReads.A0 (launchContents m' c) = arg0 m c := g0
    have a1 : RefReads.A1 (launchContents m' c) = arg1 m c := g1
    have a2 : RefReads.A2 (launchContents m' c) = arg2 m c := g2
    have h0 : ∀ j, (RefReads.A0 (launchContents m' c) j).toNat < 20 := fun j => by rw [a0]; exact i0 j
    have h1 : ∀ j, max (RefReads.A1 (launchContents m' c) j : EReal) (-(RefReads.A1 (launchContents m' c) j : EReal)) < ⊤ :=
      fun j => by rw [a1]; exact i1 j
    have h3 : ∀ j, RefReads.A3 (launchContents m' c) j = 1#1 := fun j => (congrFun g3 j).trans (i3 j)
    have k0 := KSums.ker0 (launchContents m' c) h0
    have k1 := KSums.ker1 (launchContents m' c)
    rw [a0, a1, a2] at k0 k1
    exact ⟨(h c).1.trans ((RefSums.ref0 (launchContents m' c) h0 h3).trans k0.symm),
      (h c).2.1.trans ((RefSums.ref1 (launchContents m' c) h1).trans k1.symm), (h c).2.2⟩

end Cert.Proof.Value

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_types_in_range
public import proofs.«01_k».proof.Proof.Gen.Pre_inputs_ok
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Pre_types_in_range.Gen.facts, Cert.Pre_inputs_ok.Gen.facts, Frames.frame_k, Frames.frame_ki, Frames.frame_ki',
  Frames.frame_ri, Frames.frame_ri', trivial, Value.algebraic⟩

end Cert.Proof

end
